-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "rel" .f32 0x3FDAF6BB#32 (((4432677 / 4194304) * (Real.sqrt ((2562669 / 4194304) * (Real.sqrt ((2562669 / 4194304) * (Real.sqrt ((2562669 / 4194304) * (Real.sqrt ((2562669 / 4194304) * (Real.sqrt ((2562669 / 4194304) * (Real.sqrt (Real.sqrt ((2562669 / 4194304) * (Real.sqrt (Real.sqrt (Real.sqrt (Real.sqrt ((2562669 / 4194304) * (Real.sqrt ((2562669 / 4194304) * (Real.sqrt ((2562669 / 4194304) * (Real.sqrt ((2562669 / 4194304) * (Real.sqrt ((2562669 / 4194304) * (Real.sqrt (Real.sqrt (Real.sqrt ((2562669 / 4194304) * (Real.sqrt (Real.sqrt ((2562669 / 4194304) * (Real.sqrt ((2562669 / 4194304) * (Real.sqrt ((2562669 / 4194304) * (Real.sqrt (2562669 / 4194304)))))))))))))))))))))))))))))))))))))))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S6x32x224x224 : Shape := ⟨4, ![6, 32, 224, 224]⟩
abbrev S6 : Shape := ⟨1, ![6]⟩
abbrev S1 : Shape := ⟨1, ![1]⟩
abbrev S_ : Shape := ⟨0, ![]⟩
abbrev S1x32x224x224 : Shape := ⟨4, ![1, 32, 224, 224]⟩
abbrev S32x224x224 : Shape := ⟨3, ![32, 224, 224]⟩
abbrev S32x1x224 : Shape := ⟨3, ![32, 1, 224]⟩
abbrev S32x224 : Shape := ⟨2, ![32, 224]⟩

abbrev nBuf : Space → Nat
  | .hbm => 2
  | .vmem => 1
  | .smem => 0
  | _ => 0

abbrev bufTy : (tb : Table) → Fin (tcTables nBuf tb) → BufTy
  | .hbm, ⟨0, _⟩ => ⟨S8x96x224x224, .f32⟩
  | .hbm, ⟨1, _⟩ => ⟨S8x96x224x224, .f32⟩
  | .local _ .vmem, ⟨0, _⟩ => ⟨S6x32x224x224, .f32⟩
  | _, _ => ⟨S8x96x224x224, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "rel" => some (((4432677 / 4194304) * (Real.sqrt ((2562669 / 4194304) * (Real.sqrt ((2562669 / 4194304) * (Real.sqrt ((2562669 / 4194304) * (Real.sqrt ((2562669 / 4194304) * (Real.sqrt ((2562669 / 4194304) * (Real.sqrt (Real.sqrt ((2562669 / 4194304) * (Real.sqrt (Real.sqrt (Real.sqrt (Real.sqrt ((2562669 / 4194304) * (Real.sqrt ((2562669 / 4194304) * (Real.sqrt ((2562669 / 4194304) * (Real.sqrt ((2562669 / 4194304) * (Real.sqrt ((2562669 / 4194304) * (Real.sqrt (Real.sqrt (Real.sqrt ((2562669 / 4194304) * (Real.sqrt (Real.sqrt ((2562669 / 4194304) * (Real.sqrt ((2562669 / 4194304) * (Real.sqrt ((2562669 / 4194304) * (Real.sqrt (2562669 / 4194304)))))))))))))))))))))))))))))))))))))))⁻¹ : ℝ) : EReal)
  | _ => none
-- ==== ReferenceIdeal.lean ====
abbrev S8x96x224x224 : Shape := ⟨4, ![8, 96, 224, 224]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S8 : Shape := ⟨1, ![8]⟩
abbrev S2x1 : Shape := ⟨2, ![2, 1]⟩
abbrev S2x2 : Shape := ⟨2, ![2, 2]⟩
abbrev S224 : Shape := ⟨1, ![224]⟩
abbrev S1x1x1x224 : Shape := ⟨4, ![1, 1, 1, 224]⟩
abbrev S1x1x224x1 : Shape := ⟨4, ![1, 1, 224, 1]⟩
abbrev S1x1x224x224 : Shape := ⟨4, ![1, 1, 224, 224]⟩
abbrev S8x1x1x1 : Shape := ⟨4, ![8, 1, 1, 1]⟩
abbrev S8x1x224x224 : Shape := ⟨4, ![8, 1, 224, 224]⟩

abbrev nBuf : Space → Nat
  | .hbm => 1549
  | .vmem => 0
  | .smem => 0
  | _ => 0

abbrev hbmTy0_0 (i : Nat) : BufTy := match i % 128 with
  | 0 => ⟨S8x96x224x224, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S4, .i64⟩
  | 16 => ⟨S_, .i64⟩
  | 17 => ⟨S4, .i64⟩
  | 18 => ⟨S4, .i64⟩
  | 19 => ⟨S_, .i64⟩
  | 20 => ⟨S4, .i64⟩
  | 21 => ⟨S4, .i64⟩
  | 22 => ⟨S4, .i32⟩
  | 23 => ⟨S4, .i32⟩
  | 24 => ⟨S_, .i32⟩
  | 25 => ⟨S_, .i32⟩
  | 26 => ⟨S_, .i32⟩
  | 27 => ⟨S4, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S4, .i32⟩
  | 39 => ⟨S4, .i32⟩
  | 40 => ⟨S4, .i32⟩
  | 41 => ⟨S_, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S_, .i32⟩
  | 54 => ⟨S4, .i32⟩
  | 55 => ⟨S4, .i32⟩
  | 56 => ⟨S4, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S4, .i32⟩
  | 82 => ⟨S4, .i32⟩
  | 83 => ⟨S4, .i32⟩
  | 84 => ⟨S_, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S4, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S4, .i32⟩
  | 125 => ⟨S4, .i32⟩
  | 126 => ⟨S4, .i32⟩
  | 127 => ⟨S_, .i32⟩
  | _ => ⟨S8x96x224x224, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S4, .i32⟩
  | 13 => ⟨S4, .i32⟩
  | 14 => ⟨S4, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S4, .i32⟩
  | 25 => ⟨S4, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S4, .i32⟩
  | 40 => ⟨S4, .i32⟩
  | 41 => ⟨S4, .i32⟩
  | 42 => ⟨S_, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S4, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S4, .i32⟩
  | 101 => ⟨S4, .i32⟩
  | 102 => ⟨S4, .i32⟩
  | 103 => ⟨S_, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S4x1, .i32⟩
  | 119 => ⟨S4x1, .i32⟩
  | 120 => ⟨S4x2, .i32⟩
  | 121 => ⟨S1x2, .i32⟩
  | 122 => ⟨S2, .i32⟩
  | 123 => ⟨S1x2, .i32⟩
  | 124 => ⟨S2, .i32⟩
  | 125 => ⟨S1x2, .i32⟩
  | 126 => ⟨S2, .i32⟩
  | 127 => ⟨S1x2, .i32⟩
  | _ => ⟨S8x96x224x224, .f32⟩

abbrev hbmTy0_2 (i : Nat) : BufTy := match i % 128 with
  | 0 => ⟨S2, .i32⟩
  | 1 => ⟨S_, .f32⟩
  | 2 => ⟨S_, .f32⟩
  | 3 => ⟨S_, .f32⟩
  | 4 => ⟨S_, .f32⟩
  | 5 => ⟨S_, .f32⟩
  | 6 => ⟨S1, .f32⟩
  | 7 => ⟨S1, .f32⟩
  | 8 => ⟨S1, .i32⟩
  | 9 => ⟨S_, .i32⟩
  | 10 => ⟨S1, .i32⟩
  | 11 => ⟨S_, .i32⟩
  | 12 => ⟨S8, .i64⟩
  | 13 => ⟨S_, .i64⟩
  | 14 => ⟨S8, .i64⟩
  | 15 => ⟨S8, .i64⟩
  | 16 => ⟨S_, .i64⟩
  | 17 => ⟨S8, .i64⟩
  | 18 => ⟨S8, .i64⟩
  | 19 => ⟨S8, .i32⟩
  | 20 => ⟨S8, .i32⟩
  | 21 => ⟨S_, .i32⟩
  | 22 => ⟨S_, .i32⟩
  | 23 => ⟨S_, .i32⟩
  | 24 => ⟨S8, .i32⟩
  | 25 => ⟨S8, .i32⟩
  | 26 => ⟨S8, .i32⟩
  | 27 => ⟨S8, .i32⟩
  | 28 => ⟨S8, .i32⟩
  | 29 => ⟨S_, .i32⟩
  | 30 => ⟨S8, .i32⟩
  | 31 => ⟨S8, .i32⟩
  | 32 => ⟨S_, .i32⟩
  | 33 => ⟨S8, .i32⟩
  | 34 => ⟨S8, .i32⟩
  | 35 => ⟨S8, .i32⟩
  | 36 => ⟨S8, .i32⟩
  | 37 => ⟨S8, .i32⟩
  | 38 => ⟨S_, .i32⟩
  | 39 => ⟨S8, .i32⟩
  | 40 => ⟨S8, .i32⟩
  | 41 => ⟨S_, .i32⟩
  | 42 => ⟨S8, .i32⟩
  | 43 => ⟨S8, .i32⟩
  | 44 => ⟨S8, .i32⟩
  | 45 => ⟨S8, .i32⟩
  | 46 => ⟨S8, .i32⟩
  | 47 => ⟨S_, .i32⟩
  | 48 => ⟨S8, .i32⟩
  | 49 => ⟨S8, .i32⟩
  | 50 => ⟨S_, .i32⟩
  | 51 => ⟨S8, .i32⟩
  | 52 => ⟨S8, .i32⟩
  | 53 => ⟨S8, .i32⟩
  | 54 => ⟨S8, .i32⟩
  | 55 => ⟨S8, .i32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .i32⟩
  | 63 => ⟨S8, .i32⟩
  | 64 => ⟨S8, .i32⟩
  | 65 => ⟨S8, .i32⟩
  | 66 => ⟨S8, .i32⟩
  | 67 => ⟨S8, .i32⟩
  | 68 => ⟨S_, .i32⟩
  | 69 => ⟨S8, .i32⟩
  | 70 => ⟨S8, .i32⟩
  | 71 => ⟨S8, .i32⟩
  | 72 => ⟨S_, .i32⟩
  | 73 => ⟨S8, .i32⟩
  | 74 => ⟨S8, .i32⟩
  | 75 => ⟨S_, .i32⟩
  | 76 => ⟨S8, .i32⟩
  | 77 => ⟨S8, .i32⟩
  | 78 => ⟨S8, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S8, .i32⟩
  | 88 => ⟨S8, .i32⟩
  | 89 => ⟨S8, .i32⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8, .i32⟩
  | 97 => ⟨S8, .i32⟩
  | 98 => ⟨S8, .i32⟩
  | 99 => ⟨S_, .i32⟩
  | 100 => ⟨S8, .i32⟩
  | 101 => ⟨S8, .i32⟩
  | 102 => ⟨S_, .i32⟩
  | 103 => ⟨S8, .i32⟩
  | 104 => ⟨S8, .i32⟩
  | 105 => ⟨S8, .i32⟩
  | 106 => ⟨S8, .i32⟩
  | 107 => ⟨S8, .i32⟩
  | 108 => ⟨S8, .i32⟩
  | 109 => ⟨S8, .i32⟩
  | 110 => ⟨S8, .i32⟩
  | 111 => ⟨S_, .i32⟩
  | 112 => ⟨S8, .i32⟩
  | 113 => ⟨S8, .i32⟩
  | 114 => ⟨S8, .i32⟩
  | 115 => ⟨S_, .i32⟩
  | 116 => ⟨S8, .i32⟩
  | 117 => ⟨S8, .i32⟩
  | 118 => ⟨S_, .i32⟩
  | 119 => ⟨S8, .i32⟩
  | 120 => ⟨S8, .i32⟩
  | 121 => ⟨S8, .i32⟩
  | 122 => ⟨S8, .i32⟩
  | 123 => ⟨S8, .i32⟩
  | 124 => ⟨S_, .i32⟩
  | 125 => ⟨S8, .i32⟩
  | 126 => ⟨S8, .i32⟩
  | 127 => ⟨S_, .i32⟩
  | _ => ⟨S8x96x224x224, .f32⟩

abbrev hbmTy0_3 (i : Nat) : BufTy := match i % 128 with
  | 0 => ⟨S8, .i32⟩
  | 1 => ⟨S8, .i32⟩
  | 2 => ⟨S8, .i32⟩
  | 3 => ⟨S8, .i32⟩
  | 4 => ⟨S8, .i32⟩
  | 5 => ⟨S_, .i32⟩
  | 6 => ⟨S8, .i32⟩
  | 7 => ⟨S8, .i32⟩
  | 8 => ⟨S_, .i32⟩
  | 9 => ⟨S8, .i32⟩
  | 10 => ⟨S8, .i32⟩
  | 11 => ⟨S8, .i32⟩
  | 12 => ⟨S8, .i32⟩
  | 13 => ⟨S8, .i32⟩
  | 14 => ⟨S_, .i32⟩
  | 15 => ⟨S8, .i32⟩
  | 16 => ⟨S8, .i32⟩
  | 17 => ⟨S_, .i32⟩
  | 18 => ⟨S8, .i32⟩
  | 19 => ⟨S8, .i32⟩
  | 20 => ⟨S8, .i32⟩
  | 21 => ⟨S8, .i32⟩
  | 22 => ⟨S8, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .i32⟩
  | 37 => ⟨S8, .i32⟩
  | 38 => ⟨S8, .i32⟩
  | 39 => ⟨S_, .i32⟩
  | 40 => ⟨S8, .i32⟩
  | 41 => ⟨S8, .i32⟩
  | 42 => ⟨S_, .i32⟩
  | 43 => ⟨S8, .i32⟩
  | 44 => ⟨S8, .i32⟩
  | 45 => ⟨S8, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S8, .i32⟩
  | 55 => ⟨S8, .i32⟩
  | 56 => ⟨S8, .i32⟩
  | 57 => ⟨S_, .i32⟩
  | 58 => ⟨S8, .i32⟩
  | 59 => ⟨S8, .i32⟩
  | 60 => ⟨S_, .i32⟩
  | 61 => ⟨S8, .i32⟩
  | 62 => ⟨S8, .i32⟩
  | 63 => ⟨S8, .i32⟩
  | 64 => ⟨S8, .i32⟩
  | 65 => ⟨S8, .i32⟩
  | 66 => ⟨S8, .i32⟩
  | 67 => ⟨S8, .i32⟩
  | 68 => ⟨S8, .i32⟩
  | 69 => ⟨S_, .i32⟩
  | 70 => ⟨S8, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S8, .i32⟩
  | 87 => ⟨S8, .i32⟩
  | 88 => ⟨S8, .i32⟩
  | 89 => ⟨S8, .i32⟩
  | 90 => ⟨S8, .i32⟩
  | 91 => ⟨S_, .i32⟩
  | 92 => ⟨S8, .i32⟩
  | 93 => ⟨S8, .i32⟩
  | 94 => ⟨S_, .i32⟩
  | 95 => ⟨S8, .i32⟩
  | 96 => ⟨S8, .i32⟩
  | 97 => ⟨S8, .i32⟩
  | 98 => ⟨S8, .i32⟩
  | 99 => ⟨S8, .i32⟩
  | 100 => ⟨S_, .i32⟩
  | 101 => ⟨S8, .i32⟩
  | 102 => ⟨S8, .i32⟩
  | 103 => ⟨S_, .i32⟩
  | 104 => ⟨S8, .i32⟩
  | 105 => ⟨S8, .i32⟩
  | 106 => ⟨S8, .i32⟩
  | 107 => ⟨S8, .i32⟩
  | 108 => ⟨S8, .i32⟩
  | 109 => ⟨S8, .i32⟩
  | 110 => ⟨S8, .i32⟩
  | 111 => ⟨S8, .i32⟩
  | 112 => ⟨S_, .i32⟩
  | 113 => ⟨S8, .i32⟩
  | 114 => ⟨S8, .i32⟩
  | 115 => ⟨S8, .i32⟩
  | 116 => ⟨S_, .i32⟩
  | 117 => ⟨S8, .i32⟩
  | 118 => ⟨S8, .i32⟩
  | 119 => ⟨S_, .i32⟩
  | 120 => ⟨S8, .i32⟩
  | 121 => ⟨S8, .i32⟩
  | 122 => ⟨S8, .f32⟩
  | 123 => ⟨S_, .f32⟩
  | 124 => ⟨S8, .f32⟩
  | 125 => ⟨S8, .f32⟩
  | 126 => ⟨S1, .f32⟩
  | 127 => ⟨S8, .f32⟩
  | _ => ⟨S8x96x224x224, .f32⟩

abbrev hbmTy0_4 (i : Nat) : BufTy := match i % 128 with
  | 0 => ⟨S8, .f32⟩
  | 1 => ⟨S8, .f32⟩
  | 2 => ⟨S8, .f32⟩
  | 3 => ⟨S8, .f32⟩
  | 4 => ⟨S8, .f32⟩
  | 5 => ⟨S8, .f32⟩
  | 6 => ⟨S8, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S1, .i32⟩
  | 28 => ⟨S_, .i32⟩
  | 29 => ⟨S2, .i64⟩
  | 30 => ⟨S_, .i64⟩
  | 31 => ⟨S2, .i64⟩
  | 32 => ⟨S2, .i64⟩
  | 33 => ⟨S_, .i64⟩
  | 34 => ⟨S2, .i64⟩
  | 35 => ⟨S2, .i64⟩
  | 36 => ⟨S2, .i32⟩
  | 37 => ⟨S2, .i32⟩
  | 38 => ⟨S_, .i32⟩
  | 39 => ⟨S_, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S8x96x224x224, .f32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S2, .i32⟩
  | 127 => ⟨S2, .i32⟩
  | _ => ⟨S8x96x224x224, .f32⟩

abbrev hbmTy0_6 (i : Nat) : BufTy := match i % 128 with
  | 0 => ⟨S2, .i32⟩
  | 1 => ⟨S_, .i32⟩
  | 2 => ⟨S2, .i32⟩
  | 3 => ⟨S2, .i32⟩
  | 4 => ⟨S2x1, .i32⟩
  | 5 => ⟨S2x1, .i32⟩
  | 6 => ⟨S2x2, .i32⟩
  | 7 => ⟨S1x2, .i32⟩
  | 8 => ⟨S2, .i32⟩
  | 9 => ⟨S1x2, .i32⟩
  | 10 => ⟨S2, .i32⟩
  | 11 => ⟨S1, .i32⟩
  | 12 => ⟨S_, .i32⟩
  | 13 => ⟨S1, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8x96x224x224, .f32⟩

abbrev hbmTy0_7 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1, .i32⟩
  | 56 => ⟨S_, .i32⟩
  | 57 => ⟨S1, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8x96x224x224, .f32⟩

abbrev hbmTy0_8 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i1⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .f32⟩
  | 121 => ⟨S_, .f32⟩
  | 122 => ⟨S_, .f32⟩
  | 123 => ⟨S_, .f32⟩
  | 124 => ⟨S_, .f32⟩
  | 125 => ⟨S1, .i32⟩
  | 126 => ⟨S_, .i32⟩
  | 127 => ⟨S1, .i32⟩
  | _ => ⟨S8x96x224x224, .f32⟩

abbrev hbmTy0_9 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8x96x224x224, .f32⟩

abbrev hbmTy0_10 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S1, .i32⟩
  | 59 => ⟨S_, .i32⟩
  | 60 => ⟨S1, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S8x96x224x224, .f32⟩

abbrev hbmTy0_11 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S224, .i32⟩
  | 121 => ⟨S224, .i32⟩
  | 122 => ⟨S224, .i1⟩
  | 123 => ⟨S1x1x1x224, .i1⟩
  | 124 => ⟨S224, .i32⟩
  | 125 => ⟨S224, .i32⟩
  | 126 => ⟨S224, .i1⟩
  | 127 => ⟨S1x1x224x1, .i1⟩
  | _ => ⟨S8x96x224x224, .f32⟩

abbrev hbmTy0_12 (i : Nat) : BufTy := match i % 128 with
  | 0 => ⟨S1x1x224x224, .i1⟩
  | 1 => ⟨S1x1x224x224, .i1⟩
  | 2 => ⟨S1x1x224x224, .i1⟩
  | 3 => ⟨S8x1x1x1, .i1⟩
  | 4 => ⟨S8x1x224x224, .i1⟩
  | 5 => ⟨S8x1x224x224, .i1⟩
  | 6 => ⟨S8x1x224x224, .i1⟩
  | 7 => ⟨S_, .f32⟩
  | 8 => ⟨S8x1x224x224, .f32⟩
  | 9 => ⟨S8x1x224x224, .f32⟩
  | 10 => ⟨S8x1x224x224, .f32⟩
  | 11 => ⟨S8x96x224x224, .f32⟩
  | 12 => ⟨S8x96x224x224, .f32⟩
  | _ => ⟨S8x96x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S8x96x224x224, .f32⟩

abbrev bufTy : (tb : Table) → Fin (tcTables nBuf tb) → BufTy
  | .hbm, ⟨i, _⟩ => hbmTy i
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_v14 : Ref sig .tc := ⟨.hbm, 255, rfl⟩
abbrev main_v15 : Ref sig .tc := ⟨.hbm, 256, rfl⟩
abbrev main_cst : Ref sig .tc := ⟨.hbm, 257, rfl⟩
abbrev main_call1_cst : Ref sig .tc := ⟨.hbm, 258, rfl⟩
abbrev main_call1_cst_0 : Ref sig .tc := ⟨.hbm, 259, rfl⟩
abbrev main_call1_call0_v0 : Ref sig .tc := ⟨.hbm, 260, rfl⟩
abbrev main_call1_call0_v1 : Ref sig .tc := ⟨.hbm, 261, rfl⟩
abbrev main_call1_call0_v2 : Ref sig .tc := ⟨.hbm, 262, rfl⟩
abbrev main_call1_call0_v3 : Ref sig .tc := ⟨.hbm, 263, rfl⟩
abbrev main_call1_call0_v4 : Ref sig .tc := ⟨.hbm, 264, rfl⟩
abbrev main_call1_call0_v5 : Ref sig .tc := ⟨.hbm, 265, rfl⟩
abbrev main_call1_call0_v6 : Ref sig .tc := ⟨.hbm, 266, rfl⟩
abbrev main_call1_call0_v7 : Ref sig .tc := ⟨.hbm, 267, rfl⟩
abbrev main_call1_call0_v8 : Ref sig .tc := ⟨.hbm, 268, rfl⟩
abbrev main_call1_call0_c : Ref sig .tc := ⟨.hbm, 269, rfl⟩
abbrev main_call1_call0_v9 : Ref sig .tc := ⟨.hbm, 270, rfl⟩
abbrev main_call1_call0_v10 : Ref sig .tc := ⟨.hbm, 271, rfl⟩
abbrev main_call1_call0_c_0 : Ref sig .tc := ⟨.hbm, 272, rfl⟩
abbrev main_call1_call0_v11 : Ref sig .tc := ⟨.hbm, 273, rfl⟩
abbrev main_call1_call0_v12 : Ref sig .tc := ⟨.hbm, 274, rfl⟩
abbrev main_call1_call0_v13 : Ref sig .tc := ⟨.hbm, 275, rfl⟩
abbrev main_call1_call0_v14 : Ref sig .tc := ⟨.hbm, 276, rfl⟩
abbrev main_call1_call0_call0_v0 : Ref sig .tc := ⟨.hbm, 277, rfl⟩
abbrev main_call1_call0_call0_c : Ref sig .tc := ⟨.hbm, 278, rfl⟩
abbrev main_call1_call0_call0_v1 : Ref sig .tc := ⟨.hbm, 279, rfl⟩
abbrev main_call1_call0_call0_v2 : Ref sig .tc := ⟨.hbm, 280, rfl⟩
abbrev main_call1_call0_call0_v3 : Ref sig .tc := ⟨.hbm, 281, rfl⟩
abbrev main_call1_call0_call0_v4 : Ref sig .tc := ⟨.hbm, 282, rfl⟩
abbrev main_call1_call0_call0_v5 : Ref sig .tc := ⟨.hbm, 283, rfl⟩
abbrev main_call1_call0_call0_v6 : Ref sig .tc := ⟨.hbm, 284, rfl⟩
abbrev main_call1_call0_call0_c_0 : Ref sig .tc := ⟨.hbm, 285, rfl⟩
abbrev main_call1_call0_call0_v7 : Ref sig .tc := ⟨.hbm, 286, rfl⟩
abbrev main_call1_call0_call0_v8 : Ref sig .tc := ⟨.hbm, 287, rfl⟩
abbrev main_call1_call0_call0_c_1 : Ref sig .tc := ⟨.hbm, 288, rfl⟩
abbrev main_call1_call0_call0_v9 : Ref sig .tc := ⟨.hbm, 289, rfl⟩
abbrev main_call1_call0_call0_v10 : Ref sig .tc := ⟨.hbm, 290, rfl⟩
abbrev main_call1_call0_call0_v11 : Ref sig .tc := ⟨.hbm, 291, rfl⟩
abbrev main_call1_call0_call0_v12 : Ref sig .tc := ⟨.hbm, 292, rfl⟩
abbrev main_call1_call0_call0_v13 : Ref sig .tc := ⟨.hbm, 293, rfl⟩
abbrev main_call1_call0_call0_c_2 : Ref sig .tc := ⟨.hbm, 294, rfl⟩
abbrev main_call1_call0_call0_v14 : Ref sig .tc := ⟨.hbm, 295, rfl⟩
abbrev main_call1_call0_call0_v15 : Ref sig .tc := ⟨.hbm, 296, rfl⟩
abbrev main_call1_call0_call0_c_3 : Ref sig .tc := ⟨.hbm, 297, rfl⟩
abbrev main_call1_call0_call0_v16 : Ref sig .tc := ⟨.hbm, 298, rfl⟩
abbrev main_call1_call0_call0_v17 : Ref sig .tc := ⟨.hbm, 299, rfl⟩
abbrev main_call1_call0_call0_v18 : Ref sig .tc := ⟨.hbm, 300, rfl⟩
abbrev main_call1_call0_call0_v19 : Ref sig .tc := ⟨.hbm, 301, rfl⟩
abbrev main_call1_call0_call0_v20 : Ref sig .tc := ⟨.hbm, 302, rfl⟩
abbrev main_call1_call0_call0_c_4 : Ref sig .tc := ⟨.hbm, 303, rfl⟩
abbrev main_call1_call0_call0_v21 : Ref sig .tc := ⟨.hbm, 304, rfl⟩
abbrev main_call1_call0_call0_v22 : Ref sig .tc := ⟨.hbm, 305, rfl⟩
abbrev main_call1_call0_call0_c_5 : Ref sig .tc := ⟨.hbm, 306, rfl⟩
abbrev main_call1_call0_call0_v23 : Ref sig .tc := ⟨.hbm, 307, rfl⟩
abbrev main_call1_call0_call0_v24 : Ref sig .tc := ⟨.hbm, 308, rfl⟩
abbrev main_call1_call0_call0_v25 : Ref sig .tc := ⟨.hbm, 309, rfl⟩
abbrev main_call1_call0_call0_v26 : Ref sig .tc := ⟨.hbm, 310, rfl⟩
abbrev main_call1_call0_call0_v27 : Ref sig .tc := ⟨.hbm, 311, rfl⟩
abbrev main_call1_call0_call0_c_6 : Ref sig .tc := ⟨.hbm, 312, rfl⟩
abbrev main_call1_call0_call0_v28 : Ref sig .tc := ⟨.hbm, 313, rfl⟩
abbrev main_call1_call0_call0_v29 : Ref sig .tc := ⟨.hbm, 314, rfl⟩
abbrev main_call1_call0_call0_c_7 : Ref sig .tc := ⟨.hbm, 315, rfl⟩
abbrev main_call1_call0_call0_v30 : Ref sig .tc := ⟨.hbm, 316, rfl⟩
abbrev main_call1_call0_call0_v31 : Ref sig .tc := ⟨.hbm, 317, rfl⟩
abbrev main_call1_call0_call0_v32 : Ref sig .tc := ⟨.hbm, 318, rfl⟩
abbrev main_call1_call0_call0_v33 : Ref sig .tc := ⟨.hbm, 319, rfl⟩
abbrev main_call1_call0_call0_v34 : Ref sig .tc := ⟨.hbm, 320, rfl⟩
abbrev main_call1_call0_call0_v35 : Ref sig .tc := ⟨.hbm, 321, rfl⟩
abbrev main_call1_call0_call0_v36 : Ref sig .tc := ⟨.hbm, 322, rfl⟩
abbrev main_call1_call0_call0_v37 : Ref sig .tc := ⟨.hbm, 323, rfl⟩
abbrev main_call1_call0_call0_c_8 : Ref sig .tc := ⟨.hbm, 324, rfl⟩
abbrev main_call1_call0_call0_v38 : Ref sig .tc := ⟨.hbm, 325, rfl⟩
abbrev main_call1_call0_call0_v39 : Ref sig .tc := ⟨.hbm, 326, rfl⟩
abbrev main_call1_call0_call0_v40 : Ref sig .tc := ⟨.hbm, 327, rfl⟩
abbrev main_call1_call0_call0_c_9 : Ref sig .tc := ⟨.hbm, 328, rfl⟩
abbrev main_call1_call0_call0_v41 : Ref sig .tc := ⟨.hbm, 329, rfl⟩
abbrev main_call1_call0_call0_v42 : Ref sig .tc := ⟨.hbm, 330, rfl⟩
abbrev main_call1_call0_call0_c_10 : Ref sig .tc := ⟨.hbm, 331, rfl⟩
abbrev main_call1_call0_call0_v43 : Ref sig .tc := ⟨.hbm, 332, rfl⟩
abbrev main_call1_call0_call0_v44 : Ref sig .tc := ⟨.hbm, 333, rfl⟩
abbrev main_call1_call0_call0_v45 : Ref sig .tc := ⟨.hbm, 334, rfl⟩
abbrev main_call1_call0_call0_v46 : Ref sig .tc := ⟨.hbm, 335, rfl⟩
abbrev main_call1_call0_call0_v47 : Ref sig .tc := ⟨.hbm, 336, rfl⟩
abbrev main_call1_call0_call0_c_11 : Ref sig .tc := ⟨.hbm, 337, rfl⟩
abbrev main_call1_call0_call0_v48 : Ref sig .tc := ⟨.hbm, 338, rfl⟩
abbrev main_call1_call0_call0_v49 : Ref sig .tc := ⟨.hbm, 339, rfl⟩
abbrev main_call1_call0_call0_c_12 : Ref sig .tc := ⟨.hbm, 340, rfl⟩
abbrev main_call1_call0_call0_v50 : Ref sig .tc := ⟨.hbm, 341, rfl⟩
abbrev main_call1_call0_call0_v51 : Ref sig .tc := ⟨.hbm, 342, rfl⟩
abbrev main_call1_call0_call0_v52 : Ref sig .tc := ⟨.hbm, 343, rfl⟩
abbrev main_call1_call0_call0_v53 : Ref sig .tc := ⟨.hbm, 344, rfl⟩
abbrev main_call1_call0_call0_v54 : Ref sig .tc := ⟨.hbm, 345, rfl⟩
abbrev main_call1_call0_call0_c_13 : Ref sig .tc := ⟨.hbm, 346, rfl⟩
abbrev main_call1_call0_call0_v55 : Ref sig .tc := ⟨.hbm, 347, rfl⟩
abbrev main_call1_call0_call0_v56 : Ref sig .tc := ⟨.hbm, 348, rfl⟩
abbrev main_call1_call0_call0_c_14 : Ref sig .tc := ⟨.hbm, 349, rfl⟩
abbrev main_call1_call0_call0_v57 : Ref sig .tc := ⟨.hbm, 350, rfl⟩
abbrev main_call1_call0_call0_v58 : Ref sig .tc := ⟨.hbm, 351, rfl⟩
abbrev main_call1_call0_call0_v59 : Ref sig .tc := ⟨.hbm, 352, rfl⟩
abbrev main_call1_call0_call0_v60 : Ref sig .tc := ⟨.hbm, 353, rfl⟩
abbrev main_call1_call0_call0_v61 : Ref sig .tc := ⟨.hbm, 354, rfl⟩
abbrev main_call1_call0_call0_c_15 : Ref sig .tc := ⟨.hbm, 355, rfl⟩
abbrev main_call1_call0_call0_v62 : Ref sig .tc := ⟨.hbm, 356, rfl⟩
abbrev main_call1_call0_call0_v63 : Ref sig .tc := ⟨.hbm, 357, rfl⟩
abbrev main_call1_call0_call0_c_16 : Ref sig .tc := ⟨.hbm, 358, rfl⟩
abbrev main_call1_call0_call0_v64 : Ref sig .tc := ⟨.hbm, 359, rfl⟩
abbrev main_call1_call0_call0_v65 : Ref sig .tc := ⟨.hbm, 360, rfl⟩
abbrev main_call1_call0_call0_v66 : Ref sig .tc := ⟨.hbm, 361, rfl⟩
abbrev main_call1_call0_call0_v67 : Ref sig .tc := ⟨.hbm, 362, rfl⟩
abbrev main_call1_call0_call0_v68 : Ref sig .tc := ⟨.hbm, 363, rfl⟩
abbrev main_call1_call0_call0_v69 : Ref sig .tc := ⟨.hbm, 364, rfl⟩
abbrev main_call1_call0_call0_v70 : Ref sig .tc := ⟨.hbm, 365, rfl⟩
abbrev main_call1_call0_call0_v71 : Ref sig .tc := ⟨.hbm, 366, rfl⟩
abbrev main_call1_call0_call0_c_17 : Ref sig .tc := ⟨.hbm, 367, rfl⟩
abbrev main_call1_call0_call0_v72 : Ref sig .tc := ⟨.hbm, 368, rfl⟩
abbrev main_call1_call0_call0_v73 : Ref sig .tc := ⟨.hbm, 369, rfl⟩
abbrev main_call1_call0_call0_v74 : Ref sig .tc := ⟨.hbm, 370, rfl⟩
abbrev main_call1_call0_call0_c_18 : Ref sig .tc := ⟨.hbm, 371, rfl⟩
abbrev main_call1_call0_call0_v75 : Ref sig .tc := ⟨.hbm, 372, rfl⟩
abbrev main_call1_call0_call0_v76 : Ref sig .tc := ⟨.hbm, 373, rfl⟩
abbrev main_call1_call0_call0_c_19 : Ref sig .tc := ⟨.hbm, 374, rfl⟩
abbrev main_call1_call0_call0_v77 : Ref sig .tc := ⟨.hbm, 375, rfl⟩
abbrev main_call1_call0_call0_v78 : Ref sig .tc := ⟨.hbm, 376, rfl⟩
abbrev main_call1_call0_call0_v79 : Ref sig .tc := ⟨.hbm, 377, rfl⟩
abbrev main_call1_call0_call0_v80 : Ref sig .tc := ⟨.hbm, 378, rfl⟩
abbrev main_call1_call0_call0_v81 : Ref sig .tc := ⟨.hbm, 379, rfl⟩
abbrev main_call1_call0_call0_c_20 : Ref sig .tc := ⟨.hbm, 380, rfl⟩
abbrev main_call1_call0_call0_v82 : Ref sig .tc := ⟨.hbm, 381, rfl⟩
abbrev main_call1_call0_call0_v83 : Ref sig .tc := ⟨.hbm, 382, rfl⟩
abbrev main_call1_call0_call0_c_21 : Ref sig .tc := ⟨.hbm, 383, rfl⟩
abbrev main_call1_call0_call0_v84 : Ref sig .tc := ⟨.hbm, 384, rfl⟩
abbrev main_call1_call0_call0_v85 : Ref sig .tc := ⟨.hbm, 385, rfl⟩
abbrev main_call1_call0_call0_v86 : Ref sig .tc := ⟨.hbm, 386, rfl⟩
abbrev main_call1_call0_call0_v87 : Ref sig .tc := ⟨.hbm, 387, rfl⟩
abbrev main_call1_call0_call0_v88 : Ref sig .tc := ⟨.hbm, 388, rfl⟩
abbrev main_call1_call0_call0_c_22 : Ref sig .tc := ⟨.hbm, 389, rfl⟩
abbrev main_call1_call0_call0_v89 : Ref sig .tc := ⟨.hbm, 390, rfl⟩
abbrev main_call1_call0_call0_v90 : Ref sig .tc := ⟨.hbm, 391, rfl⟩
abbrev main_call1_call0_call0_c_23 : Ref sig .tc := ⟨.hbm, 392, rfl⟩
abbrev main_call1_call0_call0_v91 : Ref sig .tc := ⟨.hbm, 393, rfl⟩
abbrev main_call1_call0_call0_v92 : Ref sig .tc := ⟨.hbm, 394, rfl⟩
abbrev main_call1_call0_call0_v93 : Ref sig .tc := ⟨.hbm, 395, rfl⟩
abbrev main_call1_call0_call0_v94 : Ref sig .tc := ⟨.hbm, 396, rfl⟩
abbrev main_call1_call0_call0_v95 : Ref sig .tc := ⟨.hbm, 397, rfl⟩
abbrev main_call1_call0_call0_c_24 : Ref sig .tc := ⟨.hbm, 398, rfl⟩
abbrev main_call1_call0_call0_v96 : Ref sig .tc := ⟨.hbm, 399, rfl⟩
abbrev main_call1_call0_call0_v97 : Ref sig .tc := ⟨.hbm, 400, rfl⟩
abbrev main_call1_call0_call0_c_25 : Ref sig .tc := ⟨.hbm, 401, rfl⟩
abbrev main_call1_call0_call0_v98 : Ref sig .tc := ⟨.hbm, 402, rfl⟩
abbrev main_call1_call0_call0_v99 : Ref sig .tc := ⟨.hbm, 403, rfl⟩
abbrev main_call1_call0_call0_v100 : Ref sig .tc := ⟨.hbm, 404, rfl⟩
abbrev main_call1_call0_call0_v101 : Ref sig .tc := ⟨.hbm, 405, rfl⟩
abbrev main_call1_call0_call0_v102 : Ref sig .tc := ⟨.hbm, 406, rfl⟩
abbrev main_call1_call0_call0_v103 : Ref sig .tc := ⟨.hbm, 407, rfl⟩
abbrev main_call1_call0_call0_v104 : Ref sig .tc := ⟨.hbm, 408, rfl⟩
abbrev main_call1_call0_call0_v105 : Ref sig .tc := ⟨.hbm, 409, rfl⟩
abbrev main_call1_call0_call0_c_26 : Ref sig .tc := ⟨.hbm, 410, rfl⟩
abbrev main_call1_call0_call0_v106 : Ref sig .tc := ⟨.hbm, 411, rfl⟩
abbrev main_call1_call0_call0_v107 : Ref sig .tc := ⟨.hbm, 412, rfl⟩
abbrev main_call1_call0_call0_v108 : Ref sig .tc := ⟨.hbm, 413, rfl⟩
abbrev main_call1_call0_call0_c_27 : Ref sig .tc := ⟨.hbm, 414, rfl⟩
abbrev main_call1_call0_call0_v109 : Ref sig .tc := ⟨.hbm, 415, rfl⟩
abbrev main_call1_call0_call0_v110 : Ref sig .tc := ⟨.hbm, 416, rfl⟩
abbrev main_call1_call0_call0_c_28 : Ref sig .tc := ⟨.hbm, 417, rfl⟩
abbrev main_call1_call0_call0_v111 : Ref sig .tc := ⟨.hbm, 418, rfl⟩
abbrev main_call1_call0_call0_v112 : Ref sig .tc := ⟨.hbm, 419, rfl⟩
abbrev main_call1_call0_call0_v113 : Ref sig .tc := ⟨.hbm, 420, rfl⟩
abbrev main_call1_call0_call0_v114 : Ref sig .tc := ⟨.hbm, 421, rfl⟩
abbrev main_call1_call0_call0_v115 : Ref sig .tc := ⟨.hbm, 422, rfl⟩
abbrev main_call1_call0_call0_c_29 : Ref sig .tc := ⟨.hbm, 423, rfl⟩
abbrev main_call1_call0_call0_v116 : Ref sig .tc := ⟨.hbm, 424, rfl⟩
abbrev main_call1_call0_call0_v117 : Ref sig .tc := ⟨.hbm, 425, rfl⟩
abbrev main_call1_call0_call0_c_30 : Ref sig .tc := ⟨.hbm, 426, rfl⟩
abbrev main_call1_call0_call0_v118 : Ref sig .tc := ⟨.hbm, 427, rfl⟩
abbrev main_call1_call0_call0_v119 : Ref sig .tc := ⟨.hbm, 428, rfl⟩
abbrev main_call1_call0_call0_v120 : Ref sig .tc := ⟨.hbm, 429, rfl⟩
abbrev main_call1_call0_call0_v121 : Ref sig .tc := ⟨.hbm, 430, rfl⟩
abbrev main_call1_call0_call0_v122 : Ref sig .tc := ⟨.hbm, 431, rfl⟩
abbrev main_call1_call0_call0_c_31 : Ref sig .tc := ⟨.hbm, 432, rfl⟩
abbrev main_call1_call0_call0_v123 : Ref sig .tc := ⟨.hbm, 433, rfl⟩
abbrev main_call1_call0_call0_v124 : Ref sig .tc := ⟨.hbm, 434, rfl⟩
abbrev main_call1_call0_call0_c_32 : Ref sig .tc := ⟨.hbm, 435, rfl⟩
abbrev main_call1_call0_call0_v125 : Ref sig .tc := ⟨.hbm, 436, rfl⟩
abbrev main_call1_call0_call0_v126 : Ref sig .tc := ⟨.hbm, 437, rfl⟩
abbrev main_call1_call0_call0_v127 : Ref sig .tc := ⟨.hbm, 438, rfl⟩
abbrev main_call1_call0_call0_v128 : Ref sig .tc := ⟨.hbm, 439, rfl⟩
abbrev main_call1_call0_call0_v129 : Ref sig .tc := ⟨.hbm, 440, rfl⟩
abbrev main_call1_call0_call0_c_33 : Ref sig .tc := ⟨.hbm, 441, rfl⟩
abbrev main_call1_call0_call0_v130 : Ref sig .tc := ⟨.hbm, 442, rfl⟩
abbrev main_call1_call0_call0_v131 : Ref sig .tc := ⟨.hbm, 443, rfl⟩
abbrev main_call1_call0_call0_c_34 : Ref sig .tc := ⟨.hbm, 444, rfl⟩
abbrev main_call1_call0_call0_v132 : Ref sig .tc := ⟨.hbm, 445, rfl⟩
abbrev main_call1_call0_call0_v133 : Ref sig .tc := ⟨.hbm, 446, rfl⟩
abbrev main_call1_call0_call0_v134 : Ref sig .tc := ⟨.hbm, 447, rfl⟩
abbrev main_call1_call0_call0_v135 : Ref sig .tc := ⟨.hbm, 448, rfl⟩
abbrev main_call1_call0_call0_v136 : Ref sig .tc := ⟨.hbm, 449, rfl⟩
abbrev main_call1_call0_call0_v137 : Ref sig .tc := ⟨.hbm, 450, rfl⟩
abbrev main_call1_call0_call0_v138 : Ref sig .tc := ⟨.hbm, 451, rfl⟩
abbrev main_call1_call0_call0_v139 : Ref sig .tc := ⟨.hbm, 452, rfl⟩
abbrev main_call1_call0_call0_c_35 : Ref sig .tc := ⟨.hbm, 453, rfl⟩
abbrev main_call1_call0_call0_v140 : Ref sig .tc := ⟨.hbm, 454, rfl⟩
abbrev main_call1_call0_call0_v141 : Ref sig .tc := ⟨.hbm, 455, rfl⟩
abbrev main_call1_call0_call0_v142 : Ref sig .tc := ⟨.hbm, 456, rfl⟩
abbrev main_call1_call0_call0_c_36 : Ref sig .tc := ⟨.hbm, 457, rfl⟩
abbrev main_call1_call0_call0_v143 : Ref sig .tc := ⟨.hbm, 458, rfl⟩
abbrev main_call1_call0_call0_v144 : Ref sig .tc := ⟨.hbm, 459, rfl⟩
abbrev main_call1_call0_call0_c_37 : Ref sig .tc := ⟨.hbm, 460, rfl⟩
abbrev main_call1_call0_call0_v145 : Ref sig .tc := ⟨.hbm, 461, rfl⟩
abbrev main_call1_call0_call0_v146 : Ref sig .tc := ⟨.hbm, 462, rfl⟩
abbrev main_call1_call0_call0_v147 : Ref sig .tc := ⟨.hbm, 463, rfl⟩
abbrev main_call1_call0_call0_v148 : Ref sig .tc := ⟨.hbm, 464, rfl⟩
abbrev main_call1_call0_call0_v149 : Ref sig .tc := ⟨.hbm, 465, rfl⟩
abbrev main_call1_call0_call0_c_38 : Ref sig .tc := ⟨.hbm, 466, rfl⟩
abbrev main_call1_call0_call0_v150 : Ref sig .tc := ⟨.hbm, 467, rfl⟩
abbrev main_call1_call0_call0_v151 : Ref sig .tc := ⟨.hbm, 468, rfl⟩
abbrev main_call1_call0_call0_c_39 : Ref sig .tc := ⟨.hbm, 469, rfl⟩
abbrev main_call1_call0_call0_v152 : Ref sig .tc := ⟨.hbm, 470, rfl⟩
abbrev main_call1_call0_call0_v153 : Ref sig .tc := ⟨.hbm, 471, rfl⟩
abbrev main_call1_call0_call0_v154 : Ref sig .tc := ⟨.hbm, 472, rfl⟩
abbrev main_call1_call0_call0_v155 : Ref sig .tc := ⟨.hbm, 473, rfl⟩
abbrev main_call1_call0_call0_v156 : Ref sig .tc := ⟨.hbm, 474, rfl⟩
abbrev main_call1_call0_call0_c_40 : Ref sig .tc := ⟨.hbm, 475, rfl⟩
abbrev main_call1_call0_call0_v157 : Ref sig .tc := ⟨.hbm, 476, rfl⟩
abbrev main_call1_call0_call0_v158 : Ref sig .tc := ⟨.hbm, 477, rfl⟩
abbrev main_call1_call0_call0_c_41 : Ref sig .tc := ⟨.hbm, 478, rfl⟩
abbrev main_call1_call0_call0_v159 : Ref sig .tc := ⟨.hbm, 479, rfl⟩
abbrev main_call1_call0_call0_v160 : Ref sig .tc := ⟨.hbm, 480, rfl⟩
abbrev main_call1_call0_call0_v161 : Ref sig .tc := ⟨.hbm, 481, rfl⟩
abbrev main_call1_call0_call0_v162 : Ref sig .tc := ⟨.hbm, 482, rfl⟩
abbrev main_call1_call0_call0_v163 : Ref sig .tc := ⟨.hbm, 483, rfl⟩
abbrev main_call1_call0_call0_c_42 : Ref sig .tc := ⟨.hbm, 484, rfl⟩
abbrev main_call1_call0_call0_v164 : Ref sig .tc := ⟨.hbm, 485, rfl⟩
abbrev main_call1_call0_call0_v165 : Ref sig .tc := ⟨.hbm, 486, rfl⟩
abbrev main_call1_call0_call0_c_43 : Ref sig .tc := ⟨.hbm, 487, rfl⟩
abbrev main_call1_call0_call0_v166 : Ref sig .tc := ⟨.hbm, 488, rfl⟩
abbrev main_call1_call0_call0_v167 : Ref sig .tc := ⟨.hbm, 489, rfl⟩
abbrev main_call1_call0_call0_v168 : Ref sig .tc := ⟨.hbm, 490, rfl⟩
abbrev main_call1_call0_call0_v169 : Ref sig .tc := ⟨.hbm, 491, rfl⟩
abbrev main_call1_call0_call0_v170 : Ref sig .tc := ⟨.hbm, 492, rfl⟩
abbrev main_call1_call0_v15_0 : Ref sig .tc := ⟨.hbm, 493, rfl⟩
abbrev main_call1_call0_call0_v172 : Ref sig .tc := ⟨.hbm, 494, rfl⟩
abbrev main_call1_call0_call0_v173 : Ref sig .tc := ⟨.hbm, 495, rfl⟩
abbrev main_call1_call0_call0_c_44 : Ref sig .tc := ⟨.hbm, 496, rfl⟩
abbrev main_call1_call0_call0_v174 : Ref sig .tc := ⟨.hbm, 497, rfl⟩
abbrev main_call1_call0_v15_1 : Ref sig .tc := ⟨.hbm, 498, rfl⟩
abbrev main_call1_call0_v16 : Ref sig .tc := ⟨.hbm, 499, rfl⟩
abbrev main_call1_call0_c_1 : Ref sig .tc := ⟨.hbm, 500, rfl⟩
abbrev main_call1_call0_v17 : Ref sig .tc := ⟨.hbm, 501, rfl⟩
abbrev main_call1_call0_v18 : Ref sig .tc := ⟨.hbm, 502, rfl⟩
abbrev main_call1_call0_c_2 : Ref sig .tc := ⟨.hbm, 503, rfl⟩
abbrev main_call1_call0_v19 : Ref sig .tc := ⟨.hbm, 504, rfl⟩
abbrev main_call1_call0_v20 : Ref sig .tc := ⟨.hbm, 505, rfl⟩
abbrev main_call1_call0_v21 : Ref sig .tc := ⟨.hbm, 506, rfl⟩
abbrev main_call1_call0_cst : Ref sig .tc := ⟨.hbm, 507, rfl⟩
abbrev main_call1_call0_v22 : Ref sig .tc := ⟨.hbm, 508, rfl⟩
abbrev main_call1_call0_v23 : Ref sig .tc := ⟨.hbm, 509, rfl⟩
abbrev main_call1_call0_v24 : Ref sig .tc := ⟨.hbm, 510, rfl⟩
abbrev main_call1_call0_v25 : Ref sig .tc := ⟨.hbm, 511, rfl⟩
abbrev main_call1_call0_v26 : Ref sig .tc := ⟨.hbm, 512, rfl⟩
abbrev main_call1_call0_v27 : Ref sig .tc := ⟨.hbm, 513, rfl⟩
abbrev main_call1_call0_v28 : Ref sig .tc := ⟨.hbm, 514, rfl⟩
abbrev main_call1_call0_v29 : Ref sig .tc := ⟨.hbm, 515, rfl⟩
abbrev main_call1_v0 : Ref sig .tc := ⟨.hbm, 516, rfl⟩
abbrev main_call1_v1 : Ref sig .tc := ⟨.hbm, 517, rfl⟩
abbrev main_v16 : Ref sig .tc := ⟨.hbm, 518, rfl⟩
abbrev main_c_2 : Ref sig .tc := ⟨.hbm, 519, rfl⟩
abbrev main_c_3 : Ref sig .tc := ⟨.hbm, 520, rfl⟩
abbrev main_call2_c : Ref sig .tc := ⟨.hbm, 521, rfl⟩
abbrev main_call2_c_0 : Ref sig .tc := ⟨.hbm, 522, rfl⟩
abbrev main_call2_c_1 : Ref sig .tc := ⟨.hbm, 523, rfl⟩
abbrev main_call2_call0_v0 : Ref sig .tc := ⟨.hbm, 524, rfl⟩
abbrev main_call2_v0 : Ref sig .tc := ⟨.hbm, 525, rfl⟩
abbrev main_call2_v1 : Ref sig .tc := ⟨.hbm, 526, rfl⟩
abbrev main_call2_c_2 : Ref sig .tc := ⟨.hbm, 527, rfl⟩
abbrev main_call2_c_3 : Ref sig .tc := ⟨.hbm, 528, rfl⟩
abbrev main_call2_call1_v0 : Ref sig .tc := ⟨.hbm, 529, rfl⟩
abbrev main_call2_v2 : Ref sig .tc := ⟨.hbm, 530, rfl⟩
abbrev main_call2_v3 : Ref sig .tc := ⟨.hbm, 531, rfl⟩
abbrev main_call2_c_4 : Ref sig .tc := ⟨.hbm, 532, rfl⟩
abbrev main_call2_c_5 : Ref sig .tc := ⟨.hbm, 533, rfl⟩
abbrev main_call2_call2_v0 : Ref sig .tc := ⟨.hbm, 534, rfl⟩
abbrev main_call2_v4 : Ref sig .tc := ⟨.hbm, 535, rfl⟩
abbrev main_call2_v5 : Ref sig .tc := ⟨.hbm, 536, rfl⟩
abbrev main_call2_call3_v0 : Ref sig .tc := ⟨.hbm, 537, rfl⟩
abbrev main_call2_call3_v1 : Ref sig .tc := ⟨.hbm, 538, rfl⟩
abbrev main_call2_call3_v2 : Ref sig .tc := ⟨.hbm, 539, rfl⟩
abbrev main_call2_call3_v3 : Ref sig .tc := ⟨.hbm, 540, rfl⟩
abbrev main_call2_call3_v4 : Ref sig .tc := ⟨.hbm, 541, rfl⟩
abbrev main_call2_call3_c : Ref sig .tc := ⟨.hbm, 542, rfl⟩
abbrev main_call2_call3_v5 : Ref sig .tc := ⟨.hbm, 543, rfl⟩
abbrev main_call2_call3_v6 : Ref sig .tc := ⟨.hbm, 544, rfl⟩
abbrev main_call2_call3_c_0 : Ref sig .tc := ⟨.hbm, 545, rfl⟩
abbrev main_call2_call3_v7 : Ref sig .tc := ⟨.hbm, 546, rfl⟩
abbrev main_call2_call3_v8 : Ref sig .tc := ⟨.hbm, 547, rfl⟩
abbrev main_call2_call3_v9 : Ref sig .tc := ⟨.hbm, 548, rfl⟩
abbrev main_call2_call3_v10 : Ref sig .tc := ⟨.hbm, 549, rfl⟩
abbrev main_call2_call3_call0_v0 : Ref sig .tc := ⟨.hbm, 550, rfl⟩
abbrev main_call2_call3_call0_c : Ref sig .tc := ⟨.hbm, 551, rfl⟩
abbrev main_call2_call3_call0_v1 : Ref sig .tc := ⟨.hbm, 552, rfl⟩
abbrev main_call2_call3_call0_v2 : Ref sig .tc := ⟨.hbm, 553, rfl⟩
abbrev main_call2_call3_call0_v3 : Ref sig .tc := ⟨.hbm, 554, rfl⟩
abbrev main_call2_call3_call0_v4 : Ref sig .tc := ⟨.hbm, 555, rfl⟩
abbrev main_call2_call3_call0_v5 : Ref sig .tc := ⟨.hbm, 556, rfl⟩
abbrev main_call2_call3_call0_v6 : Ref sig .tc := ⟨.hbm, 557, rfl⟩
abbrev main_call2_call3_call0_c_0 : Ref sig .tc := ⟨.hbm, 558, rfl⟩
abbrev main_call2_call3_call0_v7 : Ref sig .tc := ⟨.hbm, 559, rfl⟩
abbrev main_call2_call3_call0_v8 : Ref sig .tc := ⟨.hbm, 560, rfl⟩
abbrev main_call2_call3_call0_c_1 : Ref sig .tc := ⟨.hbm, 561, rfl⟩
abbrev main_call2_call3_call0_v9 : Ref sig .tc := ⟨.hbm, 562, rfl⟩
abbrev main_call2_call3_call0_v10 : Ref sig .tc := ⟨.hbm, 563, rfl⟩
abbrev main_call2_call3_call0_v11 : Ref sig .tc := ⟨.hbm, 564, rfl⟩
abbrev main_call2_call3_call0_v12 : Ref sig .tc := ⟨.hbm, 565, rfl⟩
abbrev main_call2_call3_call0_v13 : Ref sig .tc := ⟨.hbm, 566, rfl⟩
abbrev main_call2_call3_call0_c_2 : Ref sig .tc := ⟨.hbm, 567, rfl⟩
abbrev main_call2_call3_call0_v14 : Ref sig .tc := ⟨.hbm, 568, rfl⟩
abbrev main_call2_call3_call0_v15 : Ref sig .tc := ⟨.hbm, 569, rfl⟩
abbrev main_call2_call3_call0_c_3 : Ref sig .tc := ⟨.hbm, 570, rfl⟩
abbrev main_call2_call3_call0_v16 : Ref sig .tc := ⟨.hbm, 571, rfl⟩
abbrev main_call2_call3_call0_v17 : Ref sig .tc := ⟨.hbm, 572, rfl⟩
abbrev main_call2_call3_call0_v18 : Ref sig .tc := ⟨.hbm, 573, rfl⟩
abbrev main_call2_call3_call0_v19 : Ref sig .tc := ⟨.hbm, 574, rfl⟩
abbrev main_call2_call3_call0_v20 : Ref sig .tc := ⟨.hbm, 575, rfl⟩
abbrev main_call2_call3_call0_c_4 : Ref sig .tc := ⟨.hbm, 576, rfl⟩
abbrev main_call2_call3_call0_v21 : Ref sig .tc := ⟨.hbm, 577, rfl⟩
abbrev main_call2_call3_call0_v22 : Ref sig .tc := ⟨.hbm, 578, rfl⟩
abbrev main_call2_call3_call0_c_5 : Ref sig .tc := ⟨.hbm, 579, rfl⟩
abbrev main_call2_call3_call0_v23 : Ref sig .tc := ⟨.hbm, 580, rfl⟩
abbrev main_call2_call3_call0_v24 : Ref sig .tc := ⟨.hbm, 581, rfl⟩
abbrev main_call2_call3_call0_v25 : Ref sig .tc := ⟨.hbm, 582, rfl⟩
abbrev main_call2_call3_call0_v26 : Ref sig .tc := ⟨.hbm, 583, rfl⟩
abbrev main_call2_call3_call0_v27 : Ref sig .tc := ⟨.hbm, 584, rfl⟩
abbrev main_call2_call3_call0_c_6 : Ref sig .tc := ⟨.hbm, 585, rfl⟩
abbrev main_call2_call3_call0_v28 : Ref sig .tc := ⟨.hbm, 586, rfl⟩
abbrev main_call2_call3_call0_v29 : Ref sig .tc := ⟨.hbm, 587, rfl⟩
abbrev main_call2_call3_call0_c_7 : Ref sig .tc := ⟨.hbm, 588, rfl⟩
abbrev main_call2_call3_call0_v30 : Ref sig .tc := ⟨.hbm, 589, rfl⟩
abbrev main_call2_call3_call0_v31 : Ref sig .tc := ⟨.hbm, 590, rfl⟩
abbrev main_call2_call3_call0_v32 : Ref sig .tc := ⟨.hbm, 591, rfl⟩
abbrev main_call2_call3_call0_v33 : Ref sig .tc := ⟨.hbm, 592, rfl⟩
abbrev main_call2_call3_call0_v34 : Ref sig .tc := ⟨.hbm, 593, rfl⟩
abbrev main_call2_call3_call0_v35 : Ref sig .tc := ⟨.hbm, 594, rfl⟩
abbrev main_call2_call3_call0_v36 : Ref sig .tc := ⟨.hbm, 595, rfl⟩
abbrev main_call2_call3_call0_v37 : Ref sig .tc := ⟨.hbm, 596, rfl⟩
abbrev main_call2_call3_call0_c_8 : Ref sig .tc := ⟨.hbm, 597, rfl⟩
abbrev main_call2_call3_call0_v38 : Ref sig .tc := ⟨.hbm, 598, rfl⟩
abbrev main_call2_call3_call0_v39 : Ref sig .tc := ⟨.hbm, 599, rfl⟩
abbrev main_call2_call3_call0_v40 : Ref sig .tc := ⟨.hbm, 600, rfl⟩
abbrev main_call2_call3_call0_c_9 : Ref sig .tc := ⟨.hbm, 601, rfl⟩
abbrev main_call2_call3_call0_v41 : Ref sig .tc := ⟨.hbm, 602, rfl⟩
abbrev main_call2_call3_call0_v42 : Ref sig .tc := ⟨.hbm, 603, rfl⟩
abbrev main_call2_call3_call0_c_10 : Ref sig .tc := ⟨.hbm, 604, rfl⟩
abbrev main_call2_call3_call0_v43 : Ref sig .tc := ⟨.hbm, 605, rfl⟩
abbrev main_call2_call3_call0_v44 : Ref sig .tc := ⟨.hbm, 606, rfl⟩
abbrev main_call2_call3_call0_v45 : Ref sig .tc := ⟨.hbm, 607, rfl⟩
abbrev main_call2_call3_call0_v46 : Ref sig .tc := ⟨.hbm, 608, rfl⟩
abbrev main_call2_call3_call0_v47 : Ref sig .tc := ⟨.hbm, 609, rfl⟩
abbrev main_call2_call3_call0_c_11 : Ref sig .tc := ⟨.hbm, 610, rfl⟩
abbrev main_call2_call3_call0_v48 : Ref sig .tc := ⟨.hbm, 611, rfl⟩
abbrev main_call2_call3_call0_v49 : Ref sig .tc := ⟨.hbm, 612, rfl⟩
abbrev main_call2_call3_call0_c_12 : Ref sig .tc := ⟨.hbm, 613, rfl⟩
abbrev main_call2_call3_call0_v50 : Ref sig .tc := ⟨.hbm, 614, rfl⟩
abbrev main_call2_call3_call0_v51 : Ref sig .tc := ⟨.hbm, 615, rfl⟩
abbrev main_call2_call3_call0_v52 : Ref sig .tc := ⟨.hbm, 616, rfl⟩
abbrev main_call2_call3_call0_v53 : Ref sig .tc := ⟨.hbm, 617, rfl⟩
abbrev main_call2_call3_call0_v54 : Ref sig .tc := ⟨.hbm, 618, rfl⟩
abbrev main_call2_call3_call0_c_13 : Ref sig .tc := ⟨.hbm, 619, rfl⟩
abbrev main_call2_call3_call0_v55 : Ref sig .tc := ⟨.hbm, 620, rfl⟩
abbrev main_call2_call3_call0_v56 : Ref sig .tc := ⟨.hbm, 621, rfl⟩
abbrev main_call2_call3_call0_c_14 : Ref sig .tc := ⟨.hbm, 622, rfl⟩
abbrev main_call2_call3_call0_v57 : Ref sig .tc := ⟨.hbm, 623, rfl⟩
abbrev main_call2_call3_call0_v58 : Ref sig .tc := ⟨.hbm, 624, rfl⟩
abbrev main_call2_call3_call0_v59 : Ref sig .tc := ⟨.hbm, 625, rfl⟩
abbrev main_call2_call3_call0_v60 : Ref sig .tc := ⟨.hbm, 626, rfl⟩
abbrev main_call2_call3_call0_v61 : Ref sig .tc := ⟨.hbm, 627, rfl⟩
abbrev main_call2_call3_call0_c_15 : Ref sig .tc := ⟨.hbm, 628, rfl⟩
abbrev main_call2_call3_call0_v62 : Ref sig .tc := ⟨.hbm, 629, rfl⟩
abbrev main_call2_call3_call0_v63 : Ref sig .tc := ⟨.hbm, 630, rfl⟩
abbrev main_call2_call3_call0_c_16 : Ref sig .tc := ⟨.hbm, 631, rfl⟩
abbrev main_call2_call3_call0_v64 : Ref sig .tc := ⟨.hbm, 632, rfl⟩
abbrev main_call2_call3_call0_v65 : Ref sig .tc := ⟨.hbm, 633, rfl⟩
abbrev main_call2_call3_call0_v66 : Ref sig .tc := ⟨.hbm, 634, rfl⟩
abbrev main_call2_call3_call0_v67 : Ref sig .tc := ⟨.hbm, 635, rfl⟩
abbrev main_call2_call3_call0_v68 : Ref sig .tc := ⟨.hbm, 636, rfl⟩
abbrev main_call2_call3_call0_v69 : Ref sig .tc := ⟨.hbm, 637, rfl⟩
abbrev main_call2_call3_call0_v70 : Ref sig .tc := ⟨.hbm, 638, rfl⟩
abbrev main_call2_call3_call0_v71 : Ref sig .tc := ⟨.hbm, 639, rfl⟩
abbrev main_call2_call3_call0_c_17 : Ref sig .tc := ⟨.hbm, 640, rfl⟩
abbrev main_call2_call3_call0_v72 : Ref sig .tc := ⟨.hbm, 641, rfl⟩
abbrev main_call2_call3_call0_v73 : Ref sig .tc := ⟨.hbm, 642, rfl⟩
abbrev main_call2_call3_call0_v74 : Ref sig .tc := ⟨.hbm, 643, rfl⟩
abbrev main_call2_call3_call0_c_18 : Ref sig .tc := ⟨.hbm, 644, rfl⟩
abbrev main_call2_call3_call0_v75 : Ref sig .tc := ⟨.hbm, 645, rfl⟩
abbrev main_call2_call3_call0_v76 : Ref sig .tc := ⟨.hbm, 646, rfl⟩
abbrev main_call2_call3_call0_c_19 : Ref sig .tc := ⟨.hbm, 647, rfl⟩
abbrev main_call2_call3_call0_v77 : Ref sig .tc := ⟨.hbm, 648, rfl⟩
abbrev main_call2_call3_call0_v78 : Ref sig .tc := ⟨.hbm, 649, rfl⟩
abbrev main_call2_call3_call0_v79 : Ref sig .tc := ⟨.hbm, 650, rfl⟩
abbrev main_call2_call3_call0_v80 : Ref sig .tc := ⟨.hbm, 651, rfl⟩
abbrev main_call2_call3_call0_v81 : Ref sig .tc := ⟨.hbm, 652, rfl⟩
abbrev main_call2_call3_call0_c_20 : Ref sig .tc := ⟨.hbm, 653, rfl⟩
abbrev main_call2_call3_call0_v82 : Ref sig .tc := ⟨.hbm, 654, rfl⟩
abbrev main_call2_call3_call0_v83 : Ref sig .tc := ⟨.hbm, 655, rfl⟩
abbrev main_call2_call3_call0_c_21 : Ref sig .tc := ⟨.hbm, 656, rfl⟩
abbrev main_call2_call3_call0_v84 : Ref sig .tc := ⟨.hbm, 657, rfl⟩
abbrev main_call2_call3_call0_v85 : Ref sig .tc := ⟨.hbm, 658, rfl⟩
abbrev main_call2_call3_call0_v86 : Ref sig .tc := ⟨.hbm, 659, rfl⟩
abbrev main_call2_call3_call0_v87 : Ref sig .tc := ⟨.hbm, 660, rfl⟩
abbrev main_call2_call3_call0_v88 : Ref sig .tc := ⟨.hbm, 661, rfl⟩
abbrev main_call2_call3_call0_c_22 : Ref sig .tc := ⟨.hbm, 662, rfl⟩
abbrev main_call2_call3_call0_v89 : Ref sig .tc := ⟨.hbm, 663, rfl⟩
abbrev main_call2_call3_call0_v90 : Ref sig .tc := ⟨.hbm, 664, rfl⟩
abbrev main_call2_call3_call0_c_23 : Ref sig .tc := ⟨.hbm, 665, rfl⟩
abbrev main_call2_call3_call0_v91 : Ref sig .tc := ⟨.hbm, 666, rfl⟩
abbrev main_call2_call3_call0_v92 : Ref sig .tc := ⟨.hbm, 667, rfl⟩
abbrev main_call2_call3_call0_v93 : Ref sig .tc := ⟨.hbm, 668, rfl⟩
abbrev main_call2_call3_call0_v94 : Ref sig .tc := ⟨.hbm, 669, rfl⟩
abbrev main_call2_call3_call0_v95 : Ref sig .tc := ⟨.hbm, 670, rfl⟩
abbrev main_call2_call3_call0_c_24 : Ref sig .tc := ⟨.hbm, 671, rfl⟩
abbrev main_call2_call3_call0_v96 : Ref sig .tc := ⟨.hbm, 672, rfl⟩
abbrev main_call2_call3_call0_v97 : Ref sig .tc := ⟨.hbm, 673, rfl⟩
abbrev main_call2_call3_call0_c_25 : Ref sig .tc := ⟨.hbm, 674, rfl⟩
abbrev main_call2_call3_call0_v98 : Ref sig .tc := ⟨.hbm, 675, rfl⟩
abbrev main_call2_call3_call0_v99 : Ref sig .tc := ⟨.hbm, 676, rfl⟩
abbrev main_call2_call3_call0_v100 : Ref sig .tc := ⟨.hbm, 677, rfl⟩
abbrev main_call2_call3_call0_v101 : Ref sig .tc := ⟨.hbm, 678, rfl⟩
abbrev main_call2_call3_call0_v102 : Ref sig .tc := ⟨.hbm, 679, rfl⟩
abbrev main_call2_call3_call0_v103 : Ref sig .tc := ⟨.hbm, 680, rfl⟩
abbrev main_call2_call3_call0_v104 : Ref sig .tc := ⟨.hbm, 681, rfl⟩
abbrev main_call2_call3_call0_v105 : Ref sig .tc := ⟨.hbm, 682, rfl⟩
abbrev main_call2_call3_call0_c_26 : Ref sig .tc := ⟨.hbm, 683, rfl⟩
abbrev main_call2_call3_call0_v106 : Ref sig .tc := ⟨.hbm, 684, rfl⟩
abbrev main_call2_call3_call0_v107 : Ref sig .tc := ⟨.hbm, 685, rfl⟩
abbrev main_call2_call3_call0_v108 : Ref sig .tc := ⟨.hbm, 686, rfl⟩
abbrev main_call2_call3_call0_c_27 : Ref sig .tc := ⟨.hbm, 687, rfl⟩
abbrev main_call2_call3_call0_v109 : Ref sig .tc := ⟨.hbm, 688, rfl⟩
abbrev main_call2_call3_call0_v110 : Ref sig .tc := ⟨.hbm, 689, rfl⟩
abbrev main_call2_call3_call0_c_28 : Ref sig .tc := ⟨.hbm, 690, rfl⟩
abbrev main_call2_call3_call0_v111 : Ref sig .tc := ⟨.hbm, 691, rfl⟩
abbrev main_call2_call3_call0_v112 : Ref sig .tc := ⟨.hbm, 692, rfl⟩
abbrev main_call2_call3_call0_v113 : Ref sig .tc := ⟨.hbm, 693, rfl⟩
abbrev main_call2_call3_call0_v114 : Ref sig .tc := ⟨.hbm, 694, rfl⟩
abbrev main_call2_call3_call0_v115 : Ref sig .tc := ⟨.hbm, 695, rfl⟩
abbrev main_call2_call3_call0_c_29 : Ref sig .tc := ⟨.hbm, 696, rfl⟩
abbrev main_call2_call3_call0_v116 : Ref sig .tc := ⟨.hbm, 697, rfl⟩
abbrev main_call2_call3_call0_v117 : Ref sig .tc := ⟨.hbm, 698, rfl⟩
abbrev main_call2_call3_call0_c_30 : Ref sig .tc := ⟨.hbm, 699, rfl⟩
abbrev main_call2_call3_call0_v118 : Ref sig .tc := ⟨.hbm, 700, rfl⟩
abbrev main_call2_call3_call0_v119 : Ref sig .tc := ⟨.hbm, 701, rfl⟩
abbrev main_call2_call3_call0_v120 : Ref sig .tc := ⟨.hbm, 702, rfl⟩
abbrev main_call2_call3_call0_v121 : Ref sig .tc := ⟨.hbm, 703, rfl⟩
abbrev main_call2_call3_call0_v122 : Ref sig .tc := ⟨.hbm, 704, rfl⟩
abbrev main_call2_call3_call0_c_31 : Ref sig .tc := ⟨.hbm, 705, rfl⟩
abbrev main_call2_call3_call0_v123 : Ref sig .tc := ⟨.hbm, 706, rfl⟩
abbrev main_call2_call3_call0_v124 : Ref sig .tc := ⟨.hbm, 707, rfl⟩
abbrev main_call2_call3_call0_c_32 : Ref sig .tc := ⟨.hbm, 708, rfl⟩
abbrev main_call2_call3_call0_v125 : Ref sig .tc := ⟨.hbm, 709, rfl⟩
abbrev main_call2_call3_call0_v126 : Ref sig .tc := ⟨.hbm, 710, rfl⟩
abbrev main_call2_call3_call0_v127 : Ref sig .tc := ⟨.hbm, 711, rfl⟩
abbrev main_call2_call3_call0_v128 : Ref sig .tc := ⟨.hbm, 712, rfl⟩
abbrev main_call2_call3_call0_v129 : Ref sig .tc := ⟨.hbm, 713, rfl⟩
abbrev main_call2_call3_call0_c_33 : Ref sig .tc := ⟨.hbm, 714, rfl⟩
abbrev main_call2_call3_call0_v130 : Ref sig .tc := ⟨.hbm, 715, rfl⟩
abbrev main_call2_call3_call0_v131 : Ref sig .tc := ⟨.hbm, 716, rfl⟩
abbrev main_call2_call3_call0_c_34 : Ref sig .tc := ⟨.hbm, 717, rfl⟩
abbrev main_call2_call3_call0_v132 : Ref sig .tc := ⟨.hbm, 718, rfl⟩
abbrev main_call2_call3_call0_v133 : Ref sig .tc := ⟨.hbm, 719, rfl⟩
abbrev main_call2_call3_call0_v134 : Ref sig .tc := ⟨.hbm, 720, rfl⟩
abbrev main_call2_call3_call0_v135 : Ref sig .tc := ⟨.hbm, 721, rfl⟩
abbrev main_call2_call3_call0_v136 : Ref sig .tc := ⟨.hbm, 722, rfl⟩
abbrev main_call2_call3_call0_v137 : Ref sig .tc := ⟨.hbm, 723, rfl⟩
abbrev main_call2_call3_call0_v138 : Ref sig .tc := ⟨.hbm, 724, rfl⟩
abbrev main_call2_call3_call0_v139 : Ref sig .tc := ⟨.hbm, 725, rfl⟩
abbrev main_call2_call3_call0_c_35 : Ref sig .tc := ⟨.hbm, 726, rfl⟩
abbrev main_call2_call3_call0_v140 : Ref sig .tc := ⟨.hbm, 727, rfl⟩
abbrev main_call2_call3_call0_v141 : Ref sig .tc := ⟨.hbm, 728, rfl⟩
abbrev main_call2_call3_call0_v142 : Ref sig .tc := ⟨.hbm, 729, rfl⟩
abbrev main_call2_call3_call0_c_36 : Ref sig .tc := ⟨.hbm, 730, rfl⟩
abbrev main_call2_call3_call0_v143 : Ref sig .tc := ⟨.hbm, 731, rfl⟩
abbrev main_call2_call3_call0_v144 : Ref sig .tc := ⟨.hbm, 732, rfl⟩
abbrev main_call2_call3_call0_c_37 : Ref sig .tc := ⟨.hbm, 733, rfl⟩
abbrev main_call2_call3_call0_v145 : Ref sig .tc := ⟨.hbm, 734, rfl⟩
abbrev main_call2_call3_call0_v146 : Ref sig .tc := ⟨.hbm, 735, rfl⟩
abbrev main_call2_call3_call0_v147 : Ref sig .tc := ⟨.hbm, 736, rfl⟩
abbrev main_call2_call3_call0_v148 : Ref sig .tc := ⟨.hbm, 737, rfl⟩
abbrev main_call2_call3_call0_v149 : Ref sig .tc := ⟨.hbm, 738, rfl⟩
abbrev main_call2_call3_call0_c_38 : Ref sig .tc := ⟨.hbm, 739, rfl⟩
abbrev main_call2_call3_call0_v150 : Ref sig .tc := ⟨.hbm, 740, rfl⟩
abbrev main_call2_call3_call0_v151 : Ref sig .tc := ⟨.hbm, 741, rfl⟩
abbrev main_call2_call3_call0_c_39 : Ref sig .tc := ⟨.hbm, 742, rfl⟩
abbrev main_call2_call3_call0_v152 : Ref sig .tc := ⟨.hbm, 743, rfl⟩
abbrev main_call2_call3_call0_v153 : Ref sig .tc := ⟨.hbm, 744, rfl⟩
abbrev main_call2_call3_call0_v154 : Ref sig .tc := ⟨.hbm, 745, rfl⟩
abbrev main_call2_call3_call0_v155 : Ref sig .tc := ⟨.hbm, 746, rfl⟩
abbrev main_call2_call3_call0_v156 : Ref sig .tc := ⟨.hbm, 747, rfl⟩
abbrev main_call2_call3_call0_c_40 : Ref sig .tc := ⟨.hbm, 748, rfl⟩
abbrev main_call2_call3_call0_v157 : Ref sig .tc := ⟨.hbm, 749, rfl⟩
abbrev main_call2_call3_call0_v158 : Ref sig .tc := ⟨.hbm, 750, rfl⟩
abbrev main_call2_call3_call0_c_41 : Ref sig .tc := ⟨.hbm, 751, rfl⟩
abbrev main_call2_call3_call0_v159 : Ref sig .tc := ⟨.hbm, 752, rfl⟩
abbrev main_call2_call3_call0_v160 : Ref sig .tc := ⟨.hbm, 753, rfl⟩
abbrev main_call2_call3_call0_v161 : Ref sig .tc := ⟨.hbm, 754, rfl⟩
abbrev main_call2_call3_call0_v162 : Ref sig .tc := ⟨.hbm, 755, rfl⟩
abbrev main_call2_call3_call0_v163 : Ref sig .tc := ⟨.hbm, 756, rfl⟩
abbrev main_call2_call3_call0_c_42 : Ref sig .tc := ⟨.hbm, 757, rfl⟩
abbrev main_call2_call3_call0_v164 : Ref sig .tc := ⟨.hbm, 758, rfl⟩
abbrev main_call2_call3_call0_v165 : Ref sig .tc := ⟨.hbm, 759, rfl⟩
abbrev main_call2_call3_call0_c_43 : Ref sig .tc := ⟨.hbm, 760, rfl⟩
abbrev main_call2_call3_call0_v166 : Ref sig .tc := ⟨.hbm, 761, rfl⟩
abbrev main_call2_call3_call0_v167 : Ref sig .tc := ⟨.hbm, 762, rfl⟩
abbrev main_call2_call3_call0_v168 : Ref sig .tc := ⟨.hbm, 763, rfl⟩
abbrev main_call2_call3_call0_v169 : Ref sig .tc := ⟨.hbm, 764, rfl⟩
abbrev main_call2_call3_call0_v170 : Ref sig .tc := ⟨.hbm, 765, rfl⟩
abbrev main_call2_call3_v11_0 : Ref sig .tc := ⟨.hbm, 766, rfl⟩
abbrev main_call2_call3_call0_v172 : Ref sig .tc := ⟨.hbm, 767, rfl⟩
abbrev main_call2_call3_call0_v173 : Ref sig .tc := ⟨.hbm, 768, rfl⟩
abbrev main_call2_call3_call0_c_44 : Ref sig .tc := ⟨.hbm, 769, rfl⟩
abbrev main_call2_call3_call0_v174 : Ref sig .tc := ⟨.hbm, 770, rfl⟩
abbrev main_call2_call3_v11_1 : Ref sig .tc := ⟨.hbm, 771, rfl⟩
abbrev main_call2_call3_v12 : Ref sig .tc := ⟨.hbm, 772, rfl⟩
abbrev main_call2_call3_v13 : Ref sig .tc := ⟨.hbm, 773, rfl⟩
abbrev main_call2_v6 : Ref sig .tc := ⟨.hbm, 774, rfl⟩
abbrev main_call2_v7 : Ref sig .tc := ⟨.hbm, 775, rfl⟩
abbrev main_call2_v8 : Ref sig .tc := ⟨.hbm, 776, rfl⟩
abbrev main_call2_v9 : Ref sig .tc := ⟨.hbm, 777, rfl⟩
abbrev main_call2_v10 : Ref sig .tc := ⟨.hbm, 778, rfl⟩
abbrev main_call2_v11 : Ref sig .tc := ⟨.hbm, 779, rfl⟩
abbrev main_call2_v12 : Ref sig .tc := ⟨.hbm, 780, rfl⟩
abbrev main_call2_v13 : Ref sig .tc := ⟨.hbm, 781, rfl⟩
abbrev main_call2_v14 : Ref sig .tc := ⟨.hbm, 782, rfl⟩
abbrev main_call2_c_6 : Ref sig .tc := ⟨.hbm, 783, rfl⟩
abbrev main_call2_c_7 : Ref sig .tc := ⟨.hbm, 784, rfl⟩
abbrev main_call2_call4_v0 : Ref sig .tc := ⟨.hbm, 785, rfl⟩
abbrev main_call2_call4_c : Ref sig .tc := ⟨.hbm, 786, rfl⟩
abbrev main_call2_call4_v1 : Ref sig .tc := ⟨.hbm, 787, rfl⟩
abbrev main_call2_call4_v2 : Ref sig .tc := ⟨.hbm, 788, rfl⟩
abbrev main_call2_call4_v3 : Ref sig .tc := ⟨.hbm, 789, rfl⟩
abbrev main_call2_call4_v4 : Ref sig .tc := ⟨.hbm, 790, rfl⟩
abbrev main_call2_call4_c_0 : Ref sig .tc := ⟨.hbm, 791, rfl⟩
abbrev main_call2_call4_v5 : Ref sig .tc := ⟨.hbm, 792, rfl⟩
abbrev main_call2_call4_c_1 : Ref sig .tc := ⟨.hbm, 793, rfl⟩
abbrev main_call2_call4_v6 : Ref sig .tc := ⟨.hbm, 794, rfl⟩
abbrev main_call2_call4_v7 : Ref sig .tc := ⟨.hbm, 795, rfl⟩
abbrev main_call2_call4_v8 : Ref sig .tc := ⟨.hbm, 796, rfl⟩
abbrev main_call2_call4_v9 : Ref sig .tc := ⟨.hbm, 797, rfl⟩
abbrev main_call2_call4_c_2 : Ref sig .tc := ⟨.hbm, 798, rfl⟩
abbrev main_call2_call4_v10 : Ref sig .tc := ⟨.hbm, 799, rfl⟩
abbrev main_call2_call4_c_3 : Ref sig .tc := ⟨.hbm, 800, rfl⟩
abbrev main_call2_call4_v11 : Ref sig .tc := ⟨.hbm, 801, rfl⟩
abbrev main_call2_call4_v12 : Ref sig .tc := ⟨.hbm, 802, rfl⟩
abbrev main_call2_call4_v13 : Ref sig .tc := ⟨.hbm, 803, rfl⟩
abbrev main_call2_call4_v14 : Ref sig .tc := ⟨.hbm, 804, rfl⟩
abbrev main_call2_call4_c_4 : Ref sig .tc := ⟨.hbm, 805, rfl⟩
abbrev main_call2_call4_v15 : Ref sig .tc := ⟨.hbm, 806, rfl⟩
abbrev main_call2_call4_c_5 : Ref sig .tc := ⟨.hbm, 807, rfl⟩
abbrev main_call2_call4_v16 : Ref sig .tc := ⟨.hbm, 808, rfl⟩
abbrev main_call2_call4_v17 : Ref sig .tc := ⟨.hbm, 809, rfl⟩
abbrev main_call2_call4_v18 : Ref sig .tc := ⟨.hbm, 810, rfl⟩
abbrev main_call2_call4_v19 : Ref sig .tc := ⟨.hbm, 811, rfl⟩
abbrev main_call2_call4_c_6 : Ref sig .tc := ⟨.hbm, 812, rfl⟩
abbrev main_call2_call4_v20 : Ref sig .tc := ⟨.hbm, 813, rfl⟩
abbrev main_call2_call4_c_7 : Ref sig .tc := ⟨.hbm, 814, rfl⟩
abbrev main_call2_call4_v21 : Ref sig .tc := ⟨.hbm, 815, rfl⟩
abbrev main_call2_call4_v22 : Ref sig .tc := ⟨.hbm, 816, rfl⟩
abbrev main_call2_call4_v23 : Ref sig .tc := ⟨.hbm, 817, rfl⟩
abbrev main_call2_call4_v24 : Ref sig .tc := ⟨.hbm, 818, rfl⟩
abbrev main_call2_call4_v25 : Ref sig .tc := ⟨.hbm, 819, rfl⟩
abbrev main_call2_call4_c_8 : Ref sig .tc := ⟨.hbm, 820, rfl⟩
abbrev main_call2_call4_v26 : Ref sig .tc := ⟨.hbm, 821, rfl⟩
abbrev main_call2_call4_v27 : Ref sig .tc := ⟨.hbm, 822, rfl⟩
abbrev main_call2_call4_c_9 : Ref sig .tc := ⟨.hbm, 823, rfl⟩
abbrev main_call2_call4_v28 : Ref sig .tc := ⟨.hbm, 824, rfl⟩
abbrev main_call2_call4_c_10 : Ref sig .tc := ⟨.hbm, 825, rfl⟩
abbrev main_call2_call4_v29 : Ref sig .tc := ⟨.hbm, 826, rfl⟩
abbrev main_call2_call4_v30 : Ref sig .tc := ⟨.hbm, 827, rfl⟩
abbrev main_call2_call4_v31 : Ref sig .tc := ⟨.hbm, 828, rfl⟩
abbrev main_call2_call4_v32 : Ref sig .tc := ⟨.hbm, 829, rfl⟩
abbrev main_call2_call4_c_11 : Ref sig .tc := ⟨.hbm, 830, rfl⟩
abbrev main_call2_call4_v33 : Ref sig .tc := ⟨.hbm, 831, rfl⟩
abbrev main_call2_call4_c_12 : Ref sig .tc := ⟨.hbm, 832, rfl⟩
abbrev main_call2_call4_v34 : Ref sig .tc := ⟨.hbm, 833, rfl⟩
abbrev main_call2_call4_v35 : Ref sig .tc := ⟨.hbm, 834, rfl⟩
abbrev main_call2_call4_v36 : Ref sig .tc := ⟨.hbm, 835, rfl⟩
abbrev main_call2_call4_v37 : Ref sig .tc := ⟨.hbm, 836, rfl⟩
abbrev main_call2_call4_c_13 : Ref sig .tc := ⟨.hbm, 837, rfl⟩
abbrev main_call2_call4_v38 : Ref sig .tc := ⟨.hbm, 838, rfl⟩
abbrev main_call2_call4_c_14 : Ref sig .tc := ⟨.hbm, 839, rfl⟩
abbrev main_call2_call4_v39 : Ref sig .tc := ⟨.hbm, 840, rfl⟩
abbrev main_call2_call4_v40 : Ref sig .tc := ⟨.hbm, 841, rfl⟩
abbrev main_call2_call4_v41 : Ref sig .tc := ⟨.hbm, 842, rfl⟩
abbrev main_call2_call4_v42 : Ref sig .tc := ⟨.hbm, 843, rfl⟩
abbrev main_call2_call4_c_15 : Ref sig .tc := ⟨.hbm, 844, rfl⟩
abbrev main_call2_call4_v43 : Ref sig .tc := ⟨.hbm, 845, rfl⟩
abbrev main_call2_call4_c_16 : Ref sig .tc := ⟨.hbm, 846, rfl⟩
abbrev main_call2_call4_v44 : Ref sig .tc := ⟨.hbm, 847, rfl⟩
abbrev main_call2_call4_v45 : Ref sig .tc := ⟨.hbm, 848, rfl⟩
abbrev main_call2_call4_v46 : Ref sig .tc := ⟨.hbm, 849, rfl⟩
abbrev main_call2_call4_v47 : Ref sig .tc := ⟨.hbm, 850, rfl⟩
abbrev main_call2_call4_v48 : Ref sig .tc := ⟨.hbm, 851, rfl⟩
abbrev main_call2_call4_c_17 : Ref sig .tc := ⟨.hbm, 852, rfl⟩
abbrev main_call2_call4_v49 : Ref sig .tc := ⟨.hbm, 853, rfl⟩
abbrev main_call2_call4_v50 : Ref sig .tc := ⟨.hbm, 854, rfl⟩
abbrev main_call2_call4_c_18 : Ref sig .tc := ⟨.hbm, 855, rfl⟩
abbrev main_call2_call4_v51 : Ref sig .tc := ⟨.hbm, 856, rfl⟩
abbrev main_call2_call4_c_19 : Ref sig .tc := ⟨.hbm, 857, rfl⟩
abbrev main_call2_call4_v52 : Ref sig .tc := ⟨.hbm, 858, rfl⟩
abbrev main_call2_call4_v53 : Ref sig .tc := ⟨.hbm, 859, rfl⟩
abbrev main_call2_call4_v54 : Ref sig .tc := ⟨.hbm, 860, rfl⟩
abbrev main_call2_call4_v55 : Ref sig .tc := ⟨.hbm, 861, rfl⟩
abbrev main_call2_call4_c_20 : Ref sig .tc := ⟨.hbm, 862, rfl⟩
abbrev main_call2_call4_v56 : Ref sig .tc := ⟨.hbm, 863, rfl⟩
abbrev main_call2_call4_c_21 : Ref sig .tc := ⟨.hbm, 864, rfl⟩
abbrev main_call2_call4_v57 : Ref sig .tc := ⟨.hbm, 865, rfl⟩
abbrev main_call2_call4_v58 : Ref sig .tc := ⟨.hbm, 866, rfl⟩
abbrev main_call2_call4_v59 : Ref sig .tc := ⟨.hbm, 867, rfl⟩
abbrev main_call2_call4_v60 : Ref sig .tc := ⟨.hbm, 868, rfl⟩
abbrev main_call2_call4_c_22 : Ref sig .tc := ⟨.hbm, 869, rfl⟩
abbrev main_call2_call4_v61 : Ref sig .tc := ⟨.hbm, 870, rfl⟩
abbrev main_call2_call4_c_23 : Ref sig .tc := ⟨.hbm, 871, rfl⟩
abbrev main_call2_call4_v62 : Ref sig .tc := ⟨.hbm, 872, rfl⟩
abbrev main_call2_call4_v63 : Ref sig .tc := ⟨.hbm, 873, rfl⟩
abbrev main_call2_call4_v64 : Ref sig .tc := ⟨.hbm, 874, rfl⟩
abbrev main_call2_call4_v65 : Ref sig .tc := ⟨.hbm, 875, rfl⟩
abbrev main_call2_call4_c_24 : Ref sig .tc := ⟨.hbm, 876, rfl⟩
abbrev main_call2_call4_v66 : Ref sig .tc := ⟨.hbm, 877, rfl⟩
abbrev main_call2_call4_c_25 : Ref sig .tc := ⟨.hbm, 878, rfl⟩
abbrev main_call2_call4_v67 : Ref sig .tc := ⟨.hbm, 879, rfl⟩
abbrev main_call2_call4_v68 : Ref sig .tc := ⟨.hbm, 880, rfl⟩
abbrev main_call2_call4_v69 : Ref sig .tc := ⟨.hbm, 881, rfl⟩
abbrev main_call2_call4_v70 : Ref sig .tc := ⟨.hbm, 882, rfl⟩
abbrev main_call2_call4_v71 : Ref sig .tc := ⟨.hbm, 883, rfl⟩
abbrev main_call2_call4_c_26 : Ref sig .tc := ⟨.hbm, 884, rfl⟩
abbrev main_call2_call4_v72 : Ref sig .tc := ⟨.hbm, 885, rfl⟩
abbrev main_call2_call4_v73 : Ref sig .tc := ⟨.hbm, 886, rfl⟩
abbrev main_call2_call4_c_27 : Ref sig .tc := ⟨.hbm, 887, rfl⟩
abbrev main_call2_call4_v74 : Ref sig .tc := ⟨.hbm, 888, rfl⟩
abbrev main_call2_call4_c_28 : Ref sig .tc := ⟨.hbm, 889, rfl⟩
abbrev main_call2_call4_v75 : Ref sig .tc := ⟨.hbm, 890, rfl⟩
abbrev main_call2_call4_v76 : Ref sig .tc := ⟨.hbm, 891, rfl⟩
abbrev main_call2_call4_v77 : Ref sig .tc := ⟨.hbm, 892, rfl⟩
abbrev main_call2_call4_v78 : Ref sig .tc := ⟨.hbm, 893, rfl⟩
abbrev main_call2_call4_c_29 : Ref sig .tc := ⟨.hbm, 894, rfl⟩
abbrev main_call2_call4_v79 : Ref sig .tc := ⟨.hbm, 895, rfl⟩
abbrev main_call2_call4_c_30 : Ref sig .tc := ⟨.hbm, 896, rfl⟩
abbrev main_call2_call4_v80 : Ref sig .tc := ⟨.hbm, 897, rfl⟩
abbrev main_call2_call4_v81 : Ref sig .tc := ⟨.hbm, 898, rfl⟩
abbrev main_call2_call4_v82 : Ref sig .tc := ⟨.hbm, 899, rfl⟩
abbrev main_call2_call4_v83 : Ref sig .tc := ⟨.hbm, 900, rfl⟩
abbrev main_call2_call4_c_31 : Ref sig .tc := ⟨.hbm, 901, rfl⟩
abbrev main_call2_call4_v84 : Ref sig .tc := ⟨.hbm, 902, rfl⟩
abbrev main_call2_call4_c_32 : Ref sig .tc := ⟨.hbm, 903, rfl⟩
abbrev main_call2_call4_v85 : Ref sig .tc := ⟨.hbm, 904, rfl⟩
abbrev main_call2_call4_v86 : Ref sig .tc := ⟨.hbm, 905, rfl⟩
abbrev main_call2_call4_v87 : Ref sig .tc := ⟨.hbm, 906, rfl⟩
abbrev main_call2_call4_v88 : Ref sig .tc := ⟨.hbm, 907, rfl⟩
abbrev main_call2_call4_c_33 : Ref sig .tc := ⟨.hbm, 908, rfl⟩
abbrev main_call2_call4_v89 : Ref sig .tc := ⟨.hbm, 909, rfl⟩
abbrev main_call2_call4_c_34 : Ref sig .tc := ⟨.hbm, 910, rfl⟩
abbrev main_call2_call4_v90 : Ref sig .tc := ⟨.hbm, 911, rfl⟩
abbrev main_call2_call4_v91 : Ref sig .tc := ⟨.hbm, 912, rfl⟩
abbrev main_call2_call4_v92 : Ref sig .tc := ⟨.hbm, 913, rfl⟩
abbrev main_call2_call4_v93 : Ref sig .tc := ⟨.hbm, 914, rfl⟩
abbrev main_call2_call4_v94 : Ref sig .tc := ⟨.hbm, 915, rfl⟩
abbrev main_call2_call4_c_35 : Ref sig .tc := ⟨.hbm, 916, rfl⟩
abbrev main_call2_call4_v95 : Ref sig .tc := ⟨.hbm, 917, rfl⟩
abbrev main_call2_call4_v96 : Ref sig .tc := ⟨.hbm, 918, rfl⟩
abbrev main_call2_call4_c_36 : Ref sig .tc := ⟨.hbm, 919, rfl⟩
abbrev main_call2_call4_v97 : Ref sig .tc := ⟨.hbm, 920, rfl⟩
abbrev main_call2_call4_c_37 : Ref sig .tc := ⟨.hbm, 921, rfl⟩
abbrev main_call2_call4_v98 : Ref sig .tc := ⟨.hbm, 922, rfl⟩
abbrev main_call2_call4_v99 : Ref sig .tc := ⟨.hbm, 923, rfl⟩
abbrev main_call2_call4_v100 : Ref sig .tc := ⟨.hbm, 924, rfl⟩
abbrev main_call2_call4_v101 : Ref sig .tc := ⟨.hbm, 925, rfl⟩
abbrev main_call2_call4_c_38 : Ref sig .tc := ⟨.hbm, 926, rfl⟩
abbrev main_call2_call4_v102 : Ref sig .tc := ⟨.hbm, 927, rfl⟩
abbrev main_call2_call4_c_39 : Ref sig .tc := ⟨.hbm, 928, rfl⟩
abbrev main_call2_call4_v103 : Ref sig .tc := ⟨.hbm, 929, rfl⟩
abbrev main_call2_call4_v104 : Ref sig .tc := ⟨.hbm, 930, rfl⟩
abbrev main_call2_call4_v105 : Ref sig .tc := ⟨.hbm, 931, rfl⟩
abbrev main_call2_call4_v106 : Ref sig .tc := ⟨.hbm, 932, rfl⟩
abbrev main_call2_call4_c_40 : Ref sig .tc := ⟨.hbm, 933, rfl⟩
abbrev main_call2_call4_v107 : Ref sig .tc := ⟨.hbm, 934, rfl⟩
abbrev main_call2_call4_c_41 : Ref sig .tc := ⟨.hbm, 935, rfl⟩
abbrev main_call2_call4_v108 : Ref sig .tc := ⟨.hbm, 936, rfl⟩
abbrev main_call2_call4_v109 : Ref sig .tc := ⟨.hbm, 937, rfl⟩
abbrev main_call2_call4_v110 : Ref sig .tc := ⟨.hbm, 938, rfl⟩
abbrev main_call2_call4_v111 : Ref sig .tc := ⟨.hbm, 939, rfl⟩
abbrev main_call2_call4_c_42 : Ref sig .tc := ⟨.hbm, 940, rfl⟩
abbrev main_call2_call4_v112 : Ref sig .tc := ⟨.hbm, 941, rfl⟩
abbrev main_call2_call4_c_43 : Ref sig .tc := ⟨.hbm, 942, rfl⟩
abbrev main_call2_call4_v113 : Ref sig .tc := ⟨.hbm, 943, rfl⟩
abbrev main_call2_call4_v114 : Ref sig .tc := ⟨.hbm, 944, rfl⟩
abbrev main_call2_call4_v115 : Ref sig .tc := ⟨.hbm, 945, rfl⟩
abbrev main_call2_v15_0 : Ref sig .tc := ⟨.hbm, 946, rfl⟩
abbrev main_call2_call4_v117 : Ref sig .tc := ⟨.hbm, 947, rfl⟩
abbrev main_call2_call4_c_44 : Ref sig .tc := ⟨.hbm, 948, rfl⟩
abbrev main_call2_v15_1 : Ref sig .tc := ⟨.hbm, 949, rfl⟩
abbrev main_call2_v16 : Ref sig .tc := ⟨.hbm, 950, rfl⟩
abbrev main_call2_v17 : Ref sig .tc := ⟨.hbm, 951, rfl⟩
abbrev main_call2_v18 : Ref sig .tc := ⟨.hbm, 952, rfl⟩
abbrev main_call2_v19 : Ref sig .tc := ⟨.hbm, 953, rfl⟩
abbrev main_call2_v20 : Ref sig .tc := ⟨.hbm, 954, rfl⟩
abbrev main_call2_c_8 : Ref sig .tc := ⟨.hbm, 955, rfl⟩
abbrev main_call2_c_9 : Ref sig .tc := ⟨.hbm, 956, rfl⟩
abbrev main_call2_call5_v0 : Ref sig .tc := ⟨.hbm, 957, rfl⟩
abbrev main_call2_call5_c : Ref sig .tc := ⟨.hbm, 958, rfl⟩
abbrev main_call2_call5_v1 : Ref sig .tc := ⟨.hbm, 959, rfl⟩
abbrev main_call2_call5_v2 : Ref sig .tc := ⟨.hbm, 960, rfl⟩
abbrev main_call2_call5_v3 : Ref sig .tc := ⟨.hbm, 961, rfl⟩
abbrev main_call2_call5_v4 : Ref sig .tc := ⟨.hbm, 962, rfl⟩
abbrev main_call2_call5_c_0 : Ref sig .tc := ⟨.hbm, 963, rfl⟩
abbrev main_call2_call5_v5 : Ref sig .tc := ⟨.hbm, 964, rfl⟩
abbrev main_call2_call5_c_1 : Ref sig .tc := ⟨.hbm, 965, rfl⟩
abbrev main_call2_call5_v6 : Ref sig .tc := ⟨.hbm, 966, rfl⟩
abbrev main_call2_call5_v7 : Ref sig .tc := ⟨.hbm, 967, rfl⟩
abbrev main_call2_call5_v8 : Ref sig .tc := ⟨.hbm, 968, rfl⟩
abbrev main_call2_call5_v9 : Ref sig .tc := ⟨.hbm, 969, rfl⟩
abbrev main_call2_call5_c_2 : Ref sig .tc := ⟨.hbm, 970, rfl⟩
abbrev main_call2_call5_v10 : Ref sig .tc := ⟨.hbm, 971, rfl⟩
abbrev main_call2_call5_c_3 : Ref sig .tc := ⟨.hbm, 972, rfl⟩
abbrev main_call2_call5_v11 : Ref sig .tc := ⟨.hbm, 973, rfl⟩
abbrev main_call2_call5_v12 : Ref sig .tc := ⟨.hbm, 974, rfl⟩
abbrev main_call2_call5_v13 : Ref sig .tc := ⟨.hbm, 975, rfl⟩
abbrev main_call2_call5_v14 : Ref sig .tc := ⟨.hbm, 976, rfl⟩
abbrev main_call2_call5_c_4 : Ref sig .tc := ⟨.hbm, 977, rfl⟩
abbrev main_call2_call5_v15 : Ref sig .tc := ⟨.hbm, 978, rfl⟩
abbrev main_call2_call5_c_5 : Ref sig .tc := ⟨.hbm, 979, rfl⟩
abbrev main_call2_call5_v16 : Ref sig .tc := ⟨.hbm, 980, rfl⟩
abbrev main_call2_call5_v17 : Ref sig .tc := ⟨.hbm, 981, rfl⟩
abbrev main_call2_call5_v18 : Ref sig .tc := ⟨.hbm, 982, rfl⟩
abbrev main_call2_call5_v19 : Ref sig .tc := ⟨.hbm, 983, rfl⟩
abbrev main_call2_call5_c_6 : Ref sig .tc := ⟨.hbm, 984, rfl⟩
abbrev main_call2_call5_v20 : Ref sig .tc := ⟨.hbm, 985, rfl⟩
abbrev main_call2_call5_c_7 : Ref sig .tc := ⟨.hbm, 986, rfl⟩
abbrev main_call2_call5_v21 : Ref sig .tc := ⟨.hbm, 987, rfl⟩
abbrev main_call2_call5_v22 : Ref sig .tc := ⟨.hbm, 988, rfl⟩
abbrev main_call2_call5_v23 : Ref sig .tc := ⟨.hbm, 989, rfl⟩
abbrev main_call2_call5_v24 : Ref sig .tc := ⟨.hbm, 990, rfl⟩
abbrev main_call2_call5_v25 : Ref sig .tc := ⟨.hbm, 991, rfl⟩
abbrev main_call2_call5_c_8 : Ref sig .tc := ⟨.hbm, 992, rfl⟩
abbrev main_call2_call5_v26 : Ref sig .tc := ⟨.hbm, 993, rfl⟩
abbrev main_call2_call5_v27 : Ref sig .tc := ⟨.hbm, 994, rfl⟩
abbrev main_call2_call5_c_9 : Ref sig .tc := ⟨.hbm, 995, rfl⟩
abbrev main_call2_call5_v28 : Ref sig .tc := ⟨.hbm, 996, rfl⟩
abbrev main_call2_call5_c_10 : Ref sig .tc := ⟨.hbm, 997, rfl⟩
abbrev main_call2_call5_v29 : Ref sig .tc := ⟨.hbm, 998, rfl⟩
abbrev main_call2_call5_v30 : Ref sig .tc := ⟨.hbm, 999, rfl⟩
abbrev main_call2_call5_v31 : Ref sig .tc := ⟨.hbm, 1000, rfl⟩
abbrev main_call2_call5_v32 : Ref sig .tc := ⟨.hbm, 1001, rfl⟩
abbrev main_call2_call5_c_11 : Ref sig .tc := ⟨.hbm, 1002, rfl⟩
abbrev main_call2_call5_v33 : Ref sig .tc := ⟨.hbm, 1003, rfl⟩
abbrev main_call2_call5_c_12 : Ref sig .tc := ⟨.hbm, 1004, rfl⟩
abbrev main_call2_call5_v34 : Ref sig .tc := ⟨.hbm, 1005, rfl⟩
abbrev main_call2_call5_v35 : Ref sig .tc := ⟨.hbm, 1006, rfl⟩
abbrev main_call2_call5_v36 : Ref sig .tc := ⟨.hbm, 1007, rfl⟩
abbrev main_call2_call5_v37 : Ref sig .tc := ⟨.hbm, 1008, rfl⟩
abbrev main_call2_call5_c_13 : Ref sig .tc := ⟨.hbm, 1009, rfl⟩
abbrev main_call2_call5_v38 : Ref sig .tc := ⟨.hbm, 1010, rfl⟩
abbrev main_call2_call5_c_14 : Ref sig .tc := ⟨.hbm, 1011, rfl⟩
abbrev main_call2_call5_v39 : Ref sig .tc := ⟨.hbm, 1012, rfl⟩
abbrev main_call2_call5_v40 : Ref sig .tc := ⟨.hbm, 1013, rfl⟩
abbrev main_call2_call5_v41 : Ref sig .tc := ⟨.hbm, 1014, rfl⟩
abbrev main_call2_call5_v42 : Ref sig .tc := ⟨.hbm, 1015, rfl⟩
abbrev main_call2_call5_c_15 : Ref sig .tc := ⟨.hbm, 1016, rfl⟩
abbrev main_call2_call5_v43 : Ref sig .tc := ⟨.hbm, 1017, rfl⟩
abbrev main_call2_call5_c_16 : Ref sig .tc := ⟨.hbm, 1018, rfl⟩
abbrev main_call2_call5_v44 : Ref sig .tc := ⟨.hbm, 1019, rfl⟩
abbrev main_call2_call5_v45 : Ref sig .tc := ⟨.hbm, 1020, rfl⟩
abbrev main_call2_call5_v46 : Ref sig .tc := ⟨.hbm, 1021, rfl⟩
abbrev main_call2_call5_v47 : Ref sig .tc := ⟨.hbm, 1022, rfl⟩
abbrev main_call2_call5_v48 : Ref sig .tc := ⟨.hbm, 1023, rfl⟩
abbrev main_call2_call5_c_17 : Ref sig .tc := ⟨.hbm, 1024, rfl⟩
abbrev main_call2_call5_v49 : Ref sig .tc := ⟨.hbm, 1025, rfl⟩
abbrev main_call2_call5_v50 : Ref sig .tc := ⟨.hbm, 1026, rfl⟩
abbrev main_call2_call5_c_18 : Ref sig .tc := ⟨.hbm, 1027, rfl⟩
abbrev main_call2_call5_v51 : Ref sig .tc := ⟨.hbm, 1028, rfl⟩
abbrev main_call2_call5_c_19 : Ref sig .tc := ⟨.hbm, 1029, rfl⟩
abbrev main_call2_call5_v52 : Ref sig .tc := ⟨.hbm, 1030, rfl⟩
abbrev main_call2_call5_v53 : Ref sig .tc := ⟨.hbm, 1031, rfl⟩
abbrev main_call2_call5_v54 : Ref sig .tc := ⟨.hbm, 1032, rfl⟩
abbrev main_call2_call5_v55 : Ref sig .tc := ⟨.hbm, 1033, rfl⟩
abbrev main_call2_call5_c_20 : Ref sig .tc := ⟨.hbm, 1034, rfl⟩
abbrev main_call2_call5_v56 : Ref sig .tc := ⟨.hbm, 1035, rfl⟩
abbrev main_call2_call5_c_21 : Ref sig .tc := ⟨.hbm, 1036, rfl⟩
abbrev main_call2_call5_v57 : Ref sig .tc := ⟨.hbm, 1037, rfl⟩
abbrev main_call2_call5_v58 : Ref sig .tc := ⟨.hbm, 1038, rfl⟩
abbrev main_call2_call5_v59 : Ref sig .tc := ⟨.hbm, 1039, rfl⟩
abbrev main_call2_call5_v60 : Ref sig .tc := ⟨.hbm, 1040, rfl⟩
abbrev main_call2_call5_c_22 : Ref sig .tc := ⟨.hbm, 1041, rfl⟩
abbrev main_call2_call5_v61 : Ref sig .tc := ⟨.hbm, 1042, rfl⟩
abbrev main_call2_call5_c_23 : Ref sig .tc := ⟨.hbm, 1043, rfl⟩
abbrev main_call2_call5_v62 : Ref sig .tc := ⟨.hbm, 1044, rfl⟩
abbrev main_call2_call5_v63 : Ref sig .tc := ⟨.hbm, 1045, rfl⟩
abbrev main_call2_call5_v64 : Ref sig .tc := ⟨.hbm, 1046, rfl⟩
abbrev main_call2_call5_v65 : Ref sig .tc := ⟨.hbm, 1047, rfl⟩
abbrev main_call2_call5_c_24 : Ref sig .tc := ⟨.hbm, 1048, rfl⟩
abbrev main_call2_call5_v66 : Ref sig .tc := ⟨.hbm, 1049, rfl⟩
abbrev main_call2_call5_c_25 : Ref sig .tc := ⟨.hbm, 1050, rfl⟩
abbrev main_call2_call5_v67 : Ref sig .tc := ⟨.hbm, 1051, rfl⟩
abbrev main_call2_call5_v68 : Ref sig .tc := ⟨.hbm, 1052, rfl⟩
abbrev main_call2_call5_v69 : Ref sig .tc := ⟨.hbm, 1053, rfl⟩
abbrev main_call2_call5_v70 : Ref sig .tc := ⟨.hbm, 1054, rfl⟩
abbrev main_call2_call5_v71 : Ref sig .tc := ⟨.hbm, 1055, rfl⟩
abbrev main_call2_call5_c_26 : Ref sig .tc := ⟨.hbm, 1056, rfl⟩
abbrev main_call2_call5_v72 : Ref sig .tc := ⟨.hbm, 1057, rfl⟩
abbrev main_call2_call5_v73 : Ref sig .tc := ⟨.hbm, 1058, rfl⟩
abbrev main_call2_call5_c_27 : Ref sig .tc := ⟨.hbm, 1059, rfl⟩
abbrev main_call2_call5_v74 : Ref sig .tc := ⟨.hbm, 1060, rfl⟩
abbrev main_call2_call5_c_28 : Ref sig .tc := ⟨.hbm, 1061, rfl⟩
abbrev main_call2_call5_v75 : Ref sig .tc := ⟨.hbm, 1062, rfl⟩
abbrev main_call2_call5_v76 : Ref sig .tc := ⟨.hbm, 1063, rfl⟩
abbrev main_call2_call5_v77 : Ref sig .tc := ⟨.hbm, 1064, rfl⟩
abbrev main_call2_call5_v78 : Ref sig .tc := ⟨.hbm, 1065, rfl⟩
abbrev main_call2_call5_c_29 : Ref sig .tc := ⟨.hbm, 1066, rfl⟩
abbrev main_call2_call5_v79 : Ref sig .tc := ⟨.hbm, 1067, rfl⟩
abbrev main_call2_call5_c_30 : Ref sig .tc := ⟨.hbm, 1068, rfl⟩
abbrev main_call2_call5_v80 : Ref sig .tc := ⟨.hbm, 1069, rfl⟩
abbrev main_call2_call5_v81 : Ref sig .tc := ⟨.hbm, 1070, rfl⟩
abbrev main_call2_call5_v82 : Ref sig .tc := ⟨.hbm, 1071, rfl⟩
abbrev main_call2_call5_v83 : Ref sig .tc := ⟨.hbm, 1072, rfl⟩
abbrev main_call2_call5_c_31 : Ref sig .tc := ⟨.hbm, 1073, rfl⟩
abbrev main_call2_call5_v84 : Ref sig .tc := ⟨.hbm, 1074, rfl⟩
abbrev main_call2_call5_c_32 : Ref sig .tc := ⟨.hbm, 1075, rfl⟩
abbrev main_call2_call5_v85 : Ref sig .tc := ⟨.hbm, 1076, rfl⟩
abbrev main_call2_call5_v86 : Ref sig .tc := ⟨.hbm, 1077, rfl⟩
abbrev main_call2_call5_v87 : Ref sig .tc := ⟨.hbm, 1078, rfl⟩
abbrev main_call2_call5_v88 : Ref sig .tc := ⟨.hbm, 1079, rfl⟩
abbrev main_call2_call5_c_33 : Ref sig .tc := ⟨.hbm, 1080, rfl⟩
abbrev main_call2_call5_v89 : Ref sig .tc := ⟨.hbm, 1081, rfl⟩
abbrev main_call2_call5_c_34 : Ref sig .tc := ⟨.hbm, 1082, rfl⟩
abbrev main_call2_call5_v90 : Ref sig .tc := ⟨.hbm, 1083, rfl⟩
abbrev main_call2_call5_v91 : Ref sig .tc := ⟨.hbm, 1084, rfl⟩
abbrev main_call2_call5_v92 : Ref sig .tc := ⟨.hbm, 1085, rfl⟩
abbrev main_call2_call5_v93 : Ref sig .tc := ⟨.hbm, 1086, rfl⟩
abbrev main_call2_call5_v94 : Ref sig .tc := ⟨.hbm, 1087, rfl⟩
abbrev main_call2_call5_c_35 : Ref sig .tc := ⟨.hbm, 1088, rfl⟩
abbrev main_call2_call5_v95 : Ref sig .tc := ⟨.hbm, 1089, rfl⟩
abbrev main_call2_call5_v96 : Ref sig .tc := ⟨.hbm, 1090, rfl⟩
abbrev main_call2_call5_c_36 : Ref sig .tc := ⟨.hbm, 1091, rfl⟩
abbrev main_call2_call5_v97 : Ref sig .tc := ⟨.hbm, 1092, rfl⟩
abbrev main_call2_call5_c_37 : Ref sig .tc := ⟨.hbm, 1093, rfl⟩
abbrev main_call2_call5_v98 : Ref sig .tc := ⟨.hbm, 1094, rfl⟩
abbrev main_call2_call5_v99 : Ref sig .tc := ⟨.hbm, 1095, rfl⟩
abbrev main_call2_call5_v100 : Ref sig .tc := ⟨.hbm, 1096, rfl⟩
abbrev main_call2_call5_v101 : Ref sig .tc := ⟨.hbm, 1097, rfl⟩
abbrev main_call2_call5_c_38 : Ref sig .tc := ⟨.hbm, 1098, rfl⟩
abbrev main_call2_call5_v102 : Ref sig .tc := ⟨.hbm, 1099, rfl⟩
abbrev main_call2_call5_c_39 : Ref sig .tc := ⟨.hbm, 1100, rfl⟩
abbrev main_call2_call5_v103 : Ref sig .tc := ⟨.hbm, 1101, rfl⟩
abbrev main_call2_call5_v104 : Ref sig .tc := ⟨.hbm, 1102, rfl⟩
abbrev main_call2_call5_v105 : Ref sig .tc := ⟨.hbm, 1103, rfl⟩
abbrev main_call2_call5_v106 : Ref sig .tc := ⟨.hbm, 1104, rfl⟩
abbrev main_call2_call5_c_40 : Ref sig .tc := ⟨.hbm, 1105, rfl⟩
abbrev main_call2_call5_v107 : Ref sig .tc := ⟨.hbm, 1106, rfl⟩
abbrev main_call2_call5_c_41 : Ref sig .tc := ⟨.hbm, 1107, rfl⟩
abbrev main_call2_call5_v108 : Ref sig .tc := ⟨.hbm, 1108, rfl⟩
abbrev main_call2_call5_v109 : Ref sig .tc := ⟨.hbm, 1109, rfl⟩
abbrev main_call2_call5_v110 : Ref sig .tc := ⟨.hbm, 1110, rfl⟩
abbrev main_call2_call5_v111 : Ref sig .tc := ⟨.hbm, 1111, rfl⟩
abbrev main_call2_call5_c_42 : Ref sig .tc := ⟨.hbm, 1112, rfl⟩
abbrev main_call2_call5_v112 : Ref sig .tc := ⟨.hbm, 1113, rfl⟩
abbrev main_call2_call5_c_43 : Ref sig .tc := ⟨.hbm, 1114, rfl⟩
abbrev main_call2_call5_v113 : Ref sig .tc := ⟨.hbm, 1115, rfl⟩
abbrev main_call2_call5_v114 : Ref sig .tc := ⟨.hbm, 1116, rfl⟩
abbrev main_call2_call5_v115 : Ref sig .tc := ⟨.hbm, 1117, rfl⟩
abbrev main_call2_v21_0 : Ref sig .tc := ⟨.hbm, 1118, rfl⟩
abbrev main_call2_call5_v117 : Ref sig .tc := ⟨.hbm, 1119, rfl⟩
abbrev main_call2_call5_c_44 : Ref sig .tc := ⟨.hbm, 1120, rfl⟩
abbrev main_call2_v21_1 : Ref sig .tc := ⟨.hbm, 1121, rfl⟩
abbrev main_call2_v22 : Ref sig .tc := ⟨.hbm, 1122, rfl⟩
abbrev main_call2_v23 : Ref sig .tc := ⟨.hbm, 1123, rfl⟩
abbrev main_call2_v24 : Ref sig .tc := ⟨.hbm, 1124, rfl⟩
abbrev main_call2_v25 : Ref sig .tc := ⟨.hbm, 1125, rfl⟩
abbrev main_call2_c_10 : Ref sig .tc := ⟨.hbm, 1126, rfl⟩
abbrev main_call2_v26 : Ref sig .tc := ⟨.hbm, 1127, rfl⟩
abbrev main_call2_v27 : Ref sig .tc := ⟨.hbm, 1128, rfl⟩
abbrev main_call2_v28 : Ref sig .tc := ⟨.hbm, 1129, rfl⟩
abbrev main_call2_c_11 : Ref sig .tc := ⟨.hbm, 1130, rfl⟩
abbrev main_call2_v29 : Ref sig .tc := ⟨.hbm, 1131, rfl⟩
abbrev main_call2_v30 : Ref sig .tc := ⟨.hbm, 1132, rfl⟩
abbrev main_call2_c_12 : Ref sig .tc := ⟨.hbm, 1133, rfl⟩
abbrev main_call2_v31 : Ref sig .tc := ⟨.hbm, 1134, rfl⟩
abbrev main_call2_v32 : Ref sig .tc := ⟨.hbm, 1135, rfl⟩
abbrev main_call2_v33 : Ref sig .tc := ⟨.hbm, 1136, rfl⟩
abbrev main_call2_v34 : Ref sig .tc := ⟨.hbm, 1137, rfl⟩
abbrev main_call2_v35 : Ref sig .tc := ⟨.hbm, 1138, rfl⟩
abbrev main_call2_v36 : Ref sig .tc := ⟨.hbm, 1139, rfl⟩
abbrev main_call2_v37 : Ref sig .tc := ⟨.hbm, 1140, rfl⟩
abbrev main_call2_v38 : Ref sig .tc := ⟨.hbm, 1141, rfl⟩
abbrev main_call2_v39 : Ref sig .tc := ⟨.hbm, 1142, rfl⟩
abbrev main_v17 : Ref sig .tc := ⟨.hbm, 1143, rfl⟩
abbrev main_cst_4 : Ref sig .tc := ⟨.hbm, 1144, rfl⟩
abbrev main_call3_cst : Ref sig .tc := ⟨.hbm, 1145, rfl⟩
abbrev main_call3_cst_0 : Ref sig .tc := ⟨.hbm, 1146, rfl⟩
abbrev main_call3_call0_v0 : Ref sig .tc := ⟨.hbm, 1147, rfl⟩
abbrev main_call3_call0_v1 : Ref sig .tc := ⟨.hbm, 1148, rfl⟩
abbrev main_call3_call0_v2 : Ref sig .tc := ⟨.hbm, 1149, rfl⟩
abbrev main_call3_call0_v3 : Ref sig .tc := ⟨.hbm, 1150, rfl⟩
abbrev main_call3_call0_v4 : Ref sig .tc := ⟨.hbm, 1151, rfl⟩
abbrev main_call3_call0_v5 : Ref sig .tc := ⟨.hbm, 1152, rfl⟩
abbrev main_call3_call0_c : Ref sig .tc := ⟨.hbm, 1153, rfl⟩
abbrev main_call3_call0_c_0 : Ref sig .tc := ⟨.hbm, 1154, rfl⟩
abbrev main_call3_call0_call0_v0 : Ref sig .tc := ⟨.hbm, 1155, rfl⟩
abbrev main_call3_call0_call0_c : Ref sig .tc := ⟨.hbm, 1156, rfl⟩
abbrev main_call3_call0_call0_v1 : Ref sig .tc := ⟨.hbm, 1157, rfl⟩
abbrev main_call3_call0_call0_v2 : Ref sig .tc := ⟨.hbm, 1158, rfl⟩
abbrev main_call3_call0_call0_v3 : Ref sig .tc := ⟨.hbm, 1159, rfl⟩
abbrev main_call3_call0_call0_v4 : Ref sig .tc := ⟨.hbm, 1160, rfl⟩
abbrev main_call3_call0_call0_c_0 : Ref sig .tc := ⟨.hbm, 1161, rfl⟩
abbrev main_call3_call0_call0_v5 : Ref sig .tc := ⟨.hbm, 1162, rfl⟩
abbrev main_call3_call0_call0_c_1 : Ref sig .tc := ⟨.hbm, 1163, rfl⟩
abbrev main_call3_call0_call0_v6 : Ref sig .tc := ⟨.hbm, 1164, rfl⟩
abbrev main_call3_call0_call0_v7 : Ref sig .tc := ⟨.hbm, 1165, rfl⟩
abbrev main_call3_call0_call0_v8 : Ref sig .tc := ⟨.hbm, 1166, rfl⟩
abbrev main_call3_call0_call0_v9 : Ref sig .tc := ⟨.hbm, 1167, rfl⟩
abbrev main_call3_call0_call0_c_2 : Ref sig .tc := ⟨.hbm, 1168, rfl⟩
abbrev main_call3_call0_call0_v10 : Ref sig .tc := ⟨.hbm, 1169, rfl⟩
abbrev main_call3_call0_call0_c_3 : Ref sig .tc := ⟨.hbm, 1170, rfl⟩
abbrev main_call3_call0_call0_v11 : Ref sig .tc := ⟨.hbm, 1171, rfl⟩
abbrev main_call3_call0_call0_v12 : Ref sig .tc := ⟨.hbm, 1172, rfl⟩
abbrev main_call3_call0_call0_v13 : Ref sig .tc := ⟨.hbm, 1173, rfl⟩
abbrev main_call3_call0_call0_v14 : Ref sig .tc := ⟨.hbm, 1174, rfl⟩
abbrev main_call3_call0_call0_c_4 : Ref sig .tc := ⟨.hbm, 1175, rfl⟩
abbrev main_call3_call0_call0_v15 : Ref sig .tc := ⟨.hbm, 1176, rfl⟩
abbrev main_call3_call0_call0_c_5 : Ref sig .tc := ⟨.hbm, 1177, rfl⟩
abbrev main_call3_call0_call0_v16 : Ref sig .tc := ⟨.hbm, 1178, rfl⟩
abbrev main_call3_call0_call0_v17 : Ref sig .tc := ⟨.hbm, 1179, rfl⟩
abbrev main_call3_call0_call0_v18 : Ref sig .tc := ⟨.hbm, 1180, rfl⟩
abbrev main_call3_call0_call0_v19 : Ref sig .tc := ⟨.hbm, 1181, rfl⟩
abbrev main_call3_call0_call0_c_6 : Ref sig .tc := ⟨.hbm, 1182, rfl⟩
abbrev main_call3_call0_call0_v20 : Ref sig .tc := ⟨.hbm, 1183, rfl⟩
abbrev main_call3_call0_call0_c_7 : Ref sig .tc := ⟨.hbm, 1184, rfl⟩
abbrev main_call3_call0_call0_v21 : Ref sig .tc := ⟨.hbm, 1185, rfl⟩
abbrev main_call3_call0_call0_v22 : Ref sig .tc := ⟨.hbm, 1186, rfl⟩
abbrev main_call3_call0_call0_v23 : Ref sig .tc := ⟨.hbm, 1187, rfl⟩
abbrev main_call3_call0_call0_v24 : Ref sig .tc := ⟨.hbm, 1188, rfl⟩
abbrev main_call3_call0_call0_v25 : Ref sig .tc := ⟨.hbm, 1189, rfl⟩
abbrev main_call3_call0_call0_c_8 : Ref sig .tc := ⟨.hbm, 1190, rfl⟩
abbrev main_call3_call0_call0_v26 : Ref sig .tc := ⟨.hbm, 1191, rfl⟩
abbrev main_call3_call0_call0_v27 : Ref sig .tc := ⟨.hbm, 1192, rfl⟩
abbrev main_call3_call0_call0_c_9 : Ref sig .tc := ⟨.hbm, 1193, rfl⟩
abbrev main_call3_call0_call0_v28 : Ref sig .tc := ⟨.hbm, 1194, rfl⟩
abbrev main_call3_call0_call0_c_10 : Ref sig .tc := ⟨.hbm, 1195, rfl⟩
abbrev main_call3_call0_call0_v29 : Ref sig .tc := ⟨.hbm, 1196, rfl⟩
abbrev main_call3_call0_call0_v30 : Ref sig .tc := ⟨.hbm, 1197, rfl⟩
abbrev main_call3_call0_call0_v31 : Ref sig .tc := ⟨.hbm, 1198, rfl⟩
abbrev main_call3_call0_call0_v32 : Ref sig .tc := ⟨.hbm, 1199, rfl⟩
abbrev main_call3_call0_call0_c_11 : Ref sig .tc := ⟨.hbm, 1200, rfl⟩
abbrev main_call3_call0_call0_v33 : Ref sig .tc := ⟨.hbm, 1201, rfl⟩
abbrev main_call3_call0_call0_c_12 : Ref sig .tc := ⟨.hbm, 1202, rfl⟩
abbrev main_call3_call0_call0_v34 : Ref sig .tc := ⟨.hbm, 1203, rfl⟩
abbrev main_call3_call0_call0_v35 : Ref sig .tc := ⟨.hbm, 1204, rfl⟩
abbrev main_call3_call0_call0_v36 : Ref sig .tc := ⟨.hbm, 1205, rfl⟩
abbrev main_call3_call0_call0_v37 : Ref sig .tc := ⟨.hbm, 1206, rfl⟩
abbrev main_call3_call0_call0_c_13 : Ref sig .tc := ⟨.hbm, 1207, rfl⟩
abbrev main_call3_call0_call0_v38 : Ref sig .tc := ⟨.hbm, 1208, rfl⟩
abbrev main_call3_call0_call0_c_14 : Ref sig .tc := ⟨.hbm, 1209, rfl⟩
abbrev main_call3_call0_call0_v39 : Ref sig .tc := ⟨.hbm, 1210, rfl⟩
abbrev main_call3_call0_call0_v40 : Ref sig .tc := ⟨.hbm, 1211, rfl⟩
abbrev main_call3_call0_call0_v41 : Ref sig .tc := ⟨.hbm, 1212, rfl⟩
abbrev main_call3_call0_call0_v42 : Ref sig .tc := ⟨.hbm, 1213, rfl⟩
abbrev main_call3_call0_call0_c_15 : Ref sig .tc := ⟨.hbm, 1214, rfl⟩
abbrev main_call3_call0_call0_v43 : Ref sig .tc := ⟨.hbm, 1215, rfl⟩
abbrev main_call3_call0_call0_c_16 : Ref sig .tc := ⟨.hbm, 1216, rfl⟩
abbrev main_call3_call0_call0_v44 : Ref sig .tc := ⟨.hbm, 1217, rfl⟩
abbrev main_call3_call0_call0_v45 : Ref sig .tc := ⟨.hbm, 1218, rfl⟩
abbrev main_call3_call0_call0_v46 : Ref sig .tc := ⟨.hbm, 1219, rfl⟩
abbrev main_call3_call0_call0_v47 : Ref sig .tc := ⟨.hbm, 1220, rfl⟩
abbrev main_call3_call0_call0_v48 : Ref sig .tc := ⟨.hbm, 1221, rfl⟩
abbrev main_call3_call0_call0_c_17 : Ref sig .tc := ⟨.hbm, 1222, rfl⟩
abbrev main_call3_call0_call0_v49 : Ref sig .tc := ⟨.hbm, 1223, rfl⟩
abbrev main_call3_call0_call0_v50 : Ref sig .tc := ⟨.hbm, 1224, rfl⟩
abbrev main_call3_call0_call0_c_18 : Ref sig .tc := ⟨.hbm, 1225, rfl⟩
abbrev main_call3_call0_call0_v51 : Ref sig .tc := ⟨.hbm, 1226, rfl⟩
abbrev main_call3_call0_call0_c_19 : Ref sig .tc := ⟨.hbm, 1227, rfl⟩
abbrev main_call3_call0_call0_v52 : Ref sig .tc := ⟨.hbm, 1228, rfl⟩
abbrev main_call3_call0_call0_v53 : Ref sig .tc := ⟨.hbm, 1229, rfl⟩
abbrev main_call3_call0_call0_v54 : Ref sig .tc := ⟨.hbm, 1230, rfl⟩
abbrev main_call3_call0_call0_v55 : Ref sig .tc := ⟨.hbm, 1231, rfl⟩
abbrev main_call3_call0_call0_c_20 : Ref sig .tc := ⟨.hbm, 1232, rfl⟩
abbrev main_call3_call0_call0_v56 : Ref sig .tc := ⟨.hbm, 1233, rfl⟩
abbrev main_call3_call0_call0_c_21 : Ref sig .tc := ⟨.hbm, 1234, rfl⟩
abbrev main_call3_call0_call0_v57 : Ref sig .tc := ⟨.hbm, 1235, rfl⟩
abbrev main_call3_call0_call0_v58 : Ref sig .tc := ⟨.hbm, 1236, rfl⟩
abbrev main_call3_call0_call0_v59 : Ref sig .tc := ⟨.hbm, 1237, rfl⟩
abbrev main_call3_call0_call0_v60 : Ref sig .tc := ⟨.hbm, 1238, rfl⟩
abbrev main_call3_call0_call0_c_22 : Ref sig .tc := ⟨.hbm, 1239, rfl⟩
abbrev main_call3_call0_call0_v61 : Ref sig .tc := ⟨.hbm, 1240, rfl⟩
abbrev main_call3_call0_call0_c_23 : Ref sig .tc := ⟨.hbm, 1241, rfl⟩
abbrev main_call3_call0_call0_v62 : Ref sig .tc := ⟨.hbm, 1242, rfl⟩
abbrev main_call3_call0_call0_v63 : Ref sig .tc := ⟨.hbm, 1243, rfl⟩
abbrev main_call3_call0_call0_v64 : Ref sig .tc := ⟨.hbm, 1244, rfl⟩
abbrev main_call3_call0_call0_v65 : Ref sig .tc := ⟨.hbm, 1245, rfl⟩
abbrev main_call3_call0_call0_c_24 : Ref sig .tc := ⟨.hbm, 1246, rfl⟩
abbrev main_call3_call0_call0_v66 : Ref sig .tc := ⟨.hbm, 1247, rfl⟩
abbrev main_call3_call0_call0_c_25 : Ref sig .tc := ⟨.hbm, 1248, rfl⟩
abbrev main_call3_call0_call0_v67 : Ref sig .tc := ⟨.hbm, 1249, rfl⟩
abbrev main_call3_call0_call0_v68 : Ref sig .tc := ⟨.hbm, 1250, rfl⟩
abbrev main_call3_call0_call0_v69 : Ref sig .tc := ⟨.hbm, 1251, rfl⟩
abbrev main_call3_call0_call0_v70 : Ref sig .tc := ⟨.hbm, 1252, rfl⟩
abbrev main_call3_call0_call0_v71 : Ref sig .tc := ⟨.hbm, 1253, rfl⟩
abbrev main_call3_call0_call0_c_26 : Ref sig .tc := ⟨.hbm, 1254, rfl⟩
abbrev main_call3_call0_call0_v72 : Ref sig .tc := ⟨.hbm, 1255, rfl⟩
abbrev main_call3_call0_call0_v73 : Ref sig .tc := ⟨.hbm, 1256, rfl⟩
abbrev main_call3_call0_call0_c_27 : Ref sig .tc := ⟨.hbm, 1257, rfl⟩
abbrev main_call3_call0_call0_v74 : Ref sig .tc := ⟨.hbm, 1258, rfl⟩
abbrev main_call3_call0_call0_c_28 : Ref sig .tc := ⟨.hbm, 1259, rfl⟩
abbrev main_call3_call0_call0_v75 : Ref sig .tc := ⟨.hbm, 1260, rfl⟩
abbrev main_call3_call0_call0_v76 : Ref sig .tc := ⟨.hbm, 1261, rfl⟩
abbrev main_call3_call0_call0_v77 : Ref sig .tc := ⟨.hbm, 1262, rfl⟩
abbrev main_call3_call0_call0_v78 : Ref sig .tc := ⟨.hbm, 1263, rfl⟩
abbrev main_call3_call0_call0_c_29 : Ref sig .tc := ⟨.hbm, 1264, rfl⟩
abbrev main_call3_call0_call0_v79 : Ref sig .tc := ⟨.hbm, 1265, rfl⟩
abbrev main_call3_call0_call0_c_30 : Ref sig .tc := ⟨.hbm, 1266, rfl⟩
abbrev main_call3_call0_call0_v80 : Ref sig .tc := ⟨.hbm, 1267, rfl⟩
abbrev main_call3_call0_call0_v81 : Ref sig .tc := ⟨.hbm, 1268, rfl⟩
abbrev main_call3_call0_call0_v82 : Ref sig .tc := ⟨.hbm, 1269, rfl⟩
abbrev main_call3_call0_call0_v83 : Ref sig .tc := ⟨.hbm, 1270, rfl⟩
abbrev main_call3_call0_call0_c_31 : Ref sig .tc := ⟨.hbm, 1271, rfl⟩
abbrev main_call3_call0_call0_v84 : Ref sig .tc := ⟨.hbm, 1272, rfl⟩
abbrev main_call3_call0_call0_c_32 : Ref sig .tc := ⟨.hbm, 1273, rfl⟩
abbrev main_call3_call0_call0_v85 : Ref sig .tc := ⟨.hbm, 1274, rfl⟩
abbrev main_call3_call0_call0_v86 : Ref sig .tc := ⟨.hbm, 1275, rfl⟩
abbrev main_call3_call0_call0_v87 : Ref sig .tc := ⟨.hbm, 1276, rfl⟩
abbrev main_call3_call0_call0_v88 : Ref sig .tc := ⟨.hbm, 1277, rfl⟩
abbrev main_call3_call0_call0_c_33 : Ref sig .tc := ⟨.hbm, 1278, rfl⟩
abbrev main_call3_call0_call0_v89 : Ref sig .tc := ⟨.hbm, 1279, rfl⟩
abbrev main_call3_call0_call0_c_34 : Ref sig .tc := ⟨.hbm, 1280, rfl⟩
abbrev main_call3_call0_call0_v90 : Ref sig .tc := ⟨.hbm, 1281, rfl⟩
abbrev main_call3_call0_call0_v91 : Ref sig .tc := ⟨.hbm, 1282, rfl⟩
abbrev main_call3_call0_call0_v92 : Ref sig .tc := ⟨.hbm, 1283, rfl⟩
abbrev main_call3_call0_call0_v93 : Ref sig .tc := ⟨.hbm, 1284, rfl⟩
abbrev main_call3_call0_call0_v94 : Ref sig .tc := ⟨.hbm, 1285, rfl⟩
abbrev main_call3_call0_call0_c_35 : Ref sig .tc := ⟨.hbm, 1286, rfl⟩
abbrev main_call3_call0_call0_v95 : Ref sig .tc := ⟨.hbm, 1287, rfl⟩
abbrev main_call3_call0_call0_v96 : Ref sig .tc := ⟨.hbm, 1288, rfl⟩
abbrev main_call3_call0_call0_c_36 : Ref sig .tc := ⟨.hbm, 1289, rfl⟩
abbrev main_call3_call0_call0_v97 : Ref sig .tc := ⟨.hbm, 1290, rfl⟩
abbrev main_call3_call0_call0_c_37 : Ref sig .tc := ⟨.hbm, 1291, rfl⟩
abbrev main_call3_call0_call0_v98 : Ref sig .tc := ⟨.hbm, 1292, rfl⟩
abbrev main_call3_call0_call0_v99 : Ref sig .tc := ⟨.hbm, 1293, rfl⟩
abbrev main_call3_call0_call0_v100 : Ref sig .tc := ⟨.hbm, 1294, rfl⟩
abbrev main_call3_call0_call0_v101 : Ref sig .tc := ⟨.hbm, 1295, rfl⟩
abbrev main_call3_call0_call0_c_38 : Ref sig .tc := ⟨.hbm, 1296, rfl⟩
abbrev main_call3_call0_call0_v102 : Ref sig .tc := ⟨.hbm, 1297, rfl⟩
abbrev main_call3_call0_call0_c_39 : Ref sig .tc := ⟨.hbm, 1298, rfl⟩
abbrev main_call3_call0_call0_v103 : Ref sig .tc := ⟨.hbm, 1299, rfl⟩
abbrev main_call3_call0_call0_v104 : Ref sig .tc := ⟨.hbm, 1300, rfl⟩
abbrev main_call3_call0_call0_v105 : Ref sig .tc := ⟨.hbm, 1301, rfl⟩
abbrev main_call3_call0_call0_v106 : Ref sig .tc := ⟨.hbm, 1302, rfl⟩
abbrev main_call3_call0_call0_c_40 : Ref sig .tc := ⟨.hbm, 1303, rfl⟩
abbrev main_call3_call0_call0_v107 : Ref sig .tc := ⟨.hbm, 1304, rfl⟩
abbrev main_call3_call0_call0_c_41 : Ref sig .tc := ⟨.hbm, 1305, rfl⟩
abbrev main_call3_call0_call0_v108 : Ref sig .tc := ⟨.hbm, 1306, rfl⟩
abbrev main_call3_call0_call0_v109 : Ref sig .tc := ⟨.hbm, 1307, rfl⟩
abbrev main_call3_call0_call0_v110 : Ref sig .tc := ⟨.hbm, 1308, rfl⟩
abbrev main_call3_call0_call0_v111 : Ref sig .tc := ⟨.hbm, 1309, rfl⟩
abbrev main_call3_call0_call0_c_42 : Ref sig .tc := ⟨.hbm, 1310, rfl⟩
abbrev main_call3_call0_call0_v112 : Ref sig .tc := ⟨.hbm, 1311, rfl⟩
abbrev main_call3_call0_call0_c_43 : Ref sig .tc := ⟨.hbm, 1312, rfl⟩
abbrev main_call3_call0_call0_v113 : Ref sig .tc := ⟨.hbm, 1313, rfl⟩
abbrev main_call3_call0_call0_v114 : Ref sig .tc := ⟨.hbm, 1314, rfl⟩
abbrev main_call3_call0_call0_v115 : Ref sig .tc := ⟨.hbm, 1315, rfl⟩
abbrev main_call3_call0_v6_0 : Ref sig .tc := ⟨.hbm, 1316, rfl⟩
abbrev main_call3_call0_call0_v117 : Ref sig .tc := ⟨.hbm, 1317, rfl⟩
abbrev main_call3_call0_call0_c_44 : Ref sig .tc := ⟨.hbm, 1318, rfl⟩
abbrev main_call3_call0_v6_1 : Ref sig .tc := ⟨.hbm, 1319, rfl⟩
abbrev main_call3_call0_v7 : Ref sig .tc := ⟨.hbm, 1320, rfl⟩
abbrev main_call3_call0_c_1 : Ref sig .tc := ⟨.hbm, 1321, rfl⟩
abbrev main_call3_call0_v8 : Ref sig .tc := ⟨.hbm, 1322, rfl⟩
abbrev main_call3_call0_c_2 : Ref sig .tc := ⟨.hbm, 1323, rfl⟩
abbrev main_call3_call0_v9 : Ref sig .tc := ⟨.hbm, 1324, rfl⟩
abbrev main_call3_call0_v10 : Ref sig .tc := ⟨.hbm, 1325, rfl⟩
abbrev main_call3_call0_cst : Ref sig .tc := ⟨.hbm, 1326, rfl⟩
abbrev main_call3_call0_v11 : Ref sig .tc := ⟨.hbm, 1327, rfl⟩
abbrev main_call3_call0_v12 : Ref sig .tc := ⟨.hbm, 1328, rfl⟩
abbrev main_call3_call0_v13 : Ref sig .tc := ⟨.hbm, 1329, rfl⟩
abbrev main_call3_call0_v14 : Ref sig .tc := ⟨.hbm, 1330, rfl⟩
abbrev main_call3_call0_v15 : Ref sig .tc := ⟨.hbm, 1331, rfl⟩
abbrev main_call3_v0 : Ref sig .tc := ⟨.hbm, 1332, rfl⟩
abbrev main_v18 : Ref sig .tc := ⟨.hbm, 1333, rfl⟩
abbrev main_cst_5 : Ref sig .tc := ⟨.hbm, 1334, rfl⟩
abbrev main_cst_6 : Ref sig .tc := ⟨.hbm, 1335, rfl⟩
abbrev main_call4_v0 : Ref sig .tc := ⟨.hbm, 1336, rfl⟩
abbrev main_call4_v1 : Ref sig .tc := ⟨.hbm, 1337, rfl⟩
abbrev main_call4_v2 : Ref sig .tc := ⟨.hbm, 1338, rfl⟩
abbrev main_call4_v3 : Ref sig .tc := ⟨.hbm, 1339, rfl⟩
abbrev main_call4_v4 : Ref sig .tc := ⟨.hbm, 1340, rfl⟩
abbrev main_call4_v5 : Ref sig .tc := ⟨.hbm, 1341, rfl⟩
abbrev main_call4_c : Ref sig .tc := ⟨.hbm, 1342, rfl⟩
abbrev main_call4_c_0 : Ref sig .tc := ⟨.hbm, 1343, rfl⟩
abbrev main_call4_call0_v0 : Ref sig .tc := ⟨.hbm, 1344, rfl⟩
abbrev main_call4_call0_c : Ref sig .tc := ⟨.hbm, 1345, rfl⟩
abbrev main_call4_call0_v1 : Ref sig .tc := ⟨.hbm, 1346, rfl⟩
abbrev main_call4_call0_v2 : Ref sig .tc := ⟨.hbm, 1347, rfl⟩
abbrev main_call4_call0_v3 : Ref sig .tc := ⟨.hbm, 1348, rfl⟩
abbrev main_call4_call0_v4 : Ref sig .tc := ⟨.hbm, 1349, rfl⟩
abbrev main_call4_call0_c_0 : Ref sig .tc := ⟨.hbm, 1350, rfl⟩
abbrev main_call4_call0_v5 : Ref sig .tc := ⟨.hbm, 1351, rfl⟩
abbrev main_call4_call0_c_1 : Ref sig .tc := ⟨.hbm, 1352, rfl⟩
abbrev main_call4_call0_v6 : Ref sig .tc := ⟨.hbm, 1353, rfl⟩
abbrev main_call4_call0_v7 : Ref sig .tc := ⟨.hbm, 1354, rfl⟩
abbrev main_call4_call0_v8 : Ref sig .tc := ⟨.hbm, 1355, rfl⟩
abbrev main_call4_call0_v9 : Ref sig .tc := ⟨.hbm, 1356, rfl⟩
abbrev main_call4_call0_c_2 : Ref sig .tc := ⟨.hbm, 1357, rfl⟩
abbrev main_call4_call0_v10 : Ref sig .tc := ⟨.hbm, 1358, rfl⟩
abbrev main_call4_call0_c_3 : Ref sig .tc := ⟨.hbm, 1359, rfl⟩
abbrev main_call4_call0_v11 : Ref sig .tc := ⟨.hbm, 1360, rfl⟩
abbrev main_call4_call0_v12 : Ref sig .tc := ⟨.hbm, 1361, rfl⟩
abbrev main_call4_call0_v13 : Ref sig .tc := ⟨.hbm, 1362, rfl⟩
abbrev main_call4_call0_v14 : Ref sig .tc := ⟨.hbm, 1363, rfl⟩
abbrev main_call4_call0_c_4 : Ref sig .tc := ⟨.hbm, 1364, rfl⟩
abbrev main_call4_call0_v15 : Ref sig .tc := ⟨.hbm, 1365, rfl⟩
abbrev main_call4_call0_c_5 : Ref sig .tc := ⟨.hbm, 1366, rfl⟩
abbrev main_call4_call0_v16 : Ref sig .tc := ⟨.hbm, 1367, rfl⟩
abbrev main_call4_call0_v17 : Ref sig .tc := ⟨.hbm, 1368, rfl⟩
abbrev main_call4_call0_v18 : Ref sig .tc := ⟨.hbm, 1369, rfl⟩
abbrev main_call4_call0_v19 : Ref sig .tc := ⟨.hbm, 1370, rfl⟩
abbrev main_call4_call0_c_6 : Ref sig .tc := ⟨.hbm, 1371, rfl⟩
abbrev main_call4_call0_v20 : Ref sig .tc := ⟨.hbm, 1372, rfl⟩
abbrev main_call4_call0_c_7 : Ref sig .tc := ⟨.hbm, 1373, rfl⟩
abbrev main_call4_call0_v21 : Ref sig .tc := ⟨.hbm, 1374, rfl⟩
abbrev main_call4_call0_v22 : Ref sig .tc := ⟨.hbm, 1375, rfl⟩
abbrev main_call4_call0_v23 : Ref sig .tc := ⟨.hbm, 1376, rfl⟩
abbrev main_call4_call0_v24 : Ref sig .tc := ⟨.hbm, 1377, rfl⟩
abbrev main_call4_call0_v25 : Ref sig .tc := ⟨.hbm, 1378, rfl⟩
abbrev main_call4_call0_c_8 : Ref sig .tc := ⟨.hbm, 1379, rfl⟩
abbrev main_call4_call0_v26 : Ref sig .tc := ⟨.hbm, 1380, rfl⟩
abbrev main_call4_call0_v27 : Ref sig .tc := ⟨.hbm, 1381, rfl⟩
abbrev main_call4_call0_c_9 : Ref sig .tc := ⟨.hbm, 1382, rfl⟩
abbrev main_call4_call0_v28 : Ref sig .tc := ⟨.hbm, 1383, rfl⟩
abbrev main_call4_call0_c_10 : Ref sig .tc := ⟨.hbm, 1384, rfl⟩
abbrev main_call4_call0_v29 : Ref sig .tc := ⟨.hbm, 1385, rfl⟩
abbrev main_call4_call0_v30 : Ref sig .tc := ⟨.hbm, 1386, rfl⟩
abbrev main_call4_call0_v31 : Ref sig .tc := ⟨.hbm, 1387, rfl⟩
abbrev main_call4_call0_v32 : Ref sig .tc := ⟨.hbm, 1388, rfl⟩
abbrev main_call4_call0_c_11 : Ref sig .tc := ⟨.hbm, 1389, rfl⟩
abbrev main_call4_call0_v33 : Ref sig .tc := ⟨.hbm, 1390, rfl⟩
abbrev main_call4_call0_c_12 : Ref sig .tc := ⟨.hbm, 1391, rfl⟩
abbrev main_call4_call0_v34 : Ref sig .tc := ⟨.hbm, 1392, rfl⟩
abbrev main_call4_call0_v35 : Ref sig .tc := ⟨.hbm, 1393, rfl⟩
abbrev main_call4_call0_v36 : Ref sig .tc := ⟨.hbm, 1394, rfl⟩
abbrev main_call4_call0_v37 : Ref sig .tc := ⟨.hbm, 1395, rfl⟩
abbrev main_call4_call0_c_13 : Ref sig .tc := ⟨.hbm, 1396, rfl⟩
abbrev main_call4_call0_v38 : Ref sig .tc := ⟨.hbm, 1397, rfl⟩
abbrev main_call4_call0_c_14 : Ref sig .tc := ⟨.hbm, 1398, rfl⟩
abbrev main_call4_call0_v39 : Ref sig .tc := ⟨.hbm, 1399, rfl⟩
abbrev main_call4_call0_v40 : Ref sig .tc := ⟨.hbm, 1400, rfl⟩
abbrev main_call4_call0_v41 : Ref sig .tc := ⟨.hbm, 1401, rfl⟩
abbrev main_call4_call0_v42 : Ref sig .tc := ⟨.hbm, 1402, rfl⟩
abbrev main_call4_call0_c_15 : Ref sig .tc := ⟨.hbm, 1403, rfl⟩
abbrev main_call4_call0_v43 : Ref sig .tc := ⟨.hbm, 1404, rfl⟩
abbrev main_call4_call0_c_16 : Ref sig .tc := ⟨.hbm, 1405, rfl⟩
abbrev main_call4_call0_v44 : Ref sig .tc := ⟨.hbm, 1406, rfl⟩
abbrev main_call4_call0_v45 : Ref sig .tc := ⟨.hbm, 1407, rfl⟩
abbrev main_call4_call0_v46 : Ref sig .tc := ⟨.hbm, 1408, rfl⟩
abbrev main_call4_call0_v47 : Ref sig .tc := ⟨.hbm, 1409, rfl⟩
abbrev main_call4_call0_v48 : Ref sig .tc := ⟨.hbm, 1410, rfl⟩
abbrev main_call4_call0_c_17 : Ref sig .tc := ⟨.hbm, 1411, rfl⟩
abbrev main_call4_call0_v49 : Ref sig .tc := ⟨.hbm, 1412, rfl⟩
abbrev main_call4_call0_v50 : Ref sig .tc := ⟨.hbm, 1413, rfl⟩
abbrev main_call4_call0_c_18 : Ref sig .tc := ⟨.hbm, 1414, rfl⟩
abbrev main_call4_call0_v51 : Ref sig .tc := ⟨.hbm, 1415, rfl⟩
abbrev main_call4_call0_c_19 : Ref sig .tc := ⟨.hbm, 1416, rfl⟩
abbrev main_call4_call0_v52 : Ref sig .tc := ⟨.hbm, 1417, rfl⟩
abbrev main_call4_call0_v53 : Ref sig .tc := ⟨.hbm, 1418, rfl⟩
abbrev main_call4_call0_v54 : Ref sig .tc := ⟨.hbm, 1419, rfl⟩
abbrev main_call4_call0_v55 : Ref sig .tc := ⟨.hbm, 1420, rfl⟩
abbrev main_call4_call0_c_20 : Ref sig .tc := ⟨.hbm, 1421, rfl⟩
abbrev main_call4_call0_v56 : Ref sig .tc := ⟨.hbm, 1422, rfl⟩
abbrev main_call4_call0_c_21 : Ref sig .tc := ⟨.hbm, 1423, rfl⟩
abbrev main_call4_call0_v57 : Ref sig .tc := ⟨.hbm, 1424, rfl⟩
abbrev main_call4_call0_v58 : Ref sig .tc := ⟨.hbm, 1425, rfl⟩
abbrev main_call4_call0_v59 : Ref sig .tc := ⟨.hbm, 1426, rfl⟩
abbrev main_call4_call0_v60 : Ref sig .tc := ⟨.hbm, 1427, rfl⟩
abbrev main_call4_call0_c_22 : Ref sig .tc := ⟨.hbm, 1428, rfl⟩
abbrev main_call4_call0_v61 : Ref sig .tc := ⟨.hbm, 1429, rfl⟩
abbrev main_call4_call0_c_23 : Ref sig .tc := ⟨.hbm, 1430, rfl⟩
abbrev main_call4_call0_v62 : Ref sig .tc := ⟨.hbm, 1431, rfl⟩
abbrev main_call4_call0_v63 : Ref sig .tc := ⟨.hbm, 1432, rfl⟩
abbrev main_call4_call0_v64 : Ref sig .tc := ⟨.hbm, 1433, rfl⟩
abbrev main_call4_call0_v65 : Ref sig .tc := ⟨.hbm, 1434, rfl⟩
abbrev main_call4_call0_c_24 : Ref sig .tc := ⟨.hbm, 1435, rfl⟩
abbrev main_call4_call0_v66 : Ref sig .tc := ⟨.hbm, 1436, rfl⟩
abbrev main_call4_call0_c_25 : Ref sig .tc := ⟨.hbm, 1437, rfl⟩
abbrev main_call4_call0_v67 : Ref sig .tc := ⟨.hbm, 1438, rfl⟩
abbrev main_call4_call0_v68 : Ref sig .tc := ⟨.hbm, 1439, rfl⟩
abbrev main_call4_call0_v69 : Ref sig .tc := ⟨.hbm, 1440, rfl⟩
abbrev main_call4_call0_v70 : Ref sig .tc := ⟨.hbm, 1441, rfl⟩
abbrev main_call4_call0_v71 : Ref sig .tc := ⟨.hbm, 1442, rfl⟩
abbrev main_call4_call0_c_26 : Ref sig .tc := ⟨.hbm, 1443, rfl⟩
abbrev main_call4_call0_v72 : Ref sig .tc := ⟨.hbm, 1444, rfl⟩
abbrev main_call4_call0_v73 : Ref sig .tc := ⟨.hbm, 1445, rfl⟩
abbrev main_call4_call0_c_27 : Ref sig .tc := ⟨.hbm, 1446, rfl⟩
abbrev main_call4_call0_v74 : Ref sig .tc := ⟨.hbm, 1447, rfl⟩
abbrev main_call4_call0_c_28 : Ref sig .tc := ⟨.hbm, 1448, rfl⟩
abbrev main_call4_call0_v75 : Ref sig .tc := ⟨.hbm, 1449, rfl⟩
abbrev main_call4_call0_v76 : Ref sig .tc := ⟨.hbm, 1450, rfl⟩
abbrev main_call4_call0_v77 : Ref sig .tc := ⟨.hbm, 1451, rfl⟩
abbrev main_call4_call0_v78 : Ref sig .tc := ⟨.hbm, 1452, rfl⟩
abbrev main_call4_call0_c_29 : Ref sig .tc := ⟨.hbm, 1453, rfl⟩
abbrev main_call4_call0_v79 : Ref sig .tc := ⟨.hbm, 1454, rfl⟩
abbrev main_call4_call0_c_30 : Ref sig .tc := ⟨.hbm, 1455, rfl⟩
abbrev main_call4_call0_v80 : Ref sig .tc := ⟨.hbm, 1456, rfl⟩
abbrev main_call4_call0_v81 : Ref sig .tc := ⟨.hbm, 1457, rfl⟩
abbrev main_call4_call0_v82 : Ref sig .tc := ⟨.hbm, 1458, rfl⟩
abbrev main_call4_call0_v83 : Ref sig .tc := ⟨.hbm, 1459, rfl⟩
abbrev main_call4_call0_c_31 : Ref sig .tc := ⟨.hbm, 1460, rfl⟩
abbrev main_call4_call0_v84 : Ref sig .tc := ⟨.hbm, 1461, rfl⟩
abbrev main_call4_call0_c_32 : Ref sig .tc := ⟨.hbm, 1462, rfl⟩
abbrev main_call4_call0_v85 : Ref sig .tc := ⟨.hbm, 1463, rfl⟩
abbrev main_call4_call0_v86 : Ref sig .tc := ⟨.hbm, 1464, rfl⟩
abbrev main_call4_call0_v87 : Ref sig .tc := ⟨.hbm, 1465, rfl⟩
abbrev main_call4_call0_v88 : Ref sig .tc := ⟨.hbm, 1466, rfl⟩
abbrev main_call4_call0_c_33 : Ref sig .tc := ⟨.hbm, 1467, rfl⟩
abbrev main_call4_call0_v89 : Ref sig .tc := ⟨.hbm, 1468, rfl⟩
abbrev main_call4_call0_c_34 : Ref sig .tc := ⟨.hbm, 1469, rfl⟩
abbrev main_call4_call0_v90 : Ref sig .tc := ⟨.hbm, 1470, rfl⟩
abbrev main_call4_call0_v91 : Ref sig .tc := ⟨.hbm, 1471, rfl⟩
abbrev main_call4_call0_v92 : Ref sig .tc := ⟨.hbm, 1472, rfl⟩
abbrev main_call4_call0_v93 : Ref sig .tc := ⟨.hbm, 1473, rfl⟩
abbrev main_call4_call0_v94 : Ref sig .tc := ⟨.hbm, 1474, rfl⟩
abbrev main_call4_call0_c_35 : Ref sig .tc := ⟨.hbm, 1475, rfl⟩
abbrev main_call4_call0_v95 : Ref sig .tc := ⟨.hbm, 1476, rfl⟩
abbrev main_call4_call0_v96 : Ref sig .tc := ⟨.hbm, 1477, rfl⟩
abbrev main_call4_call0_c_36 : Ref sig .tc := ⟨.hbm, 1478, rfl⟩
abbrev main_call4_call0_v97 : Ref sig .tc := ⟨.hbm, 1479, rfl⟩
abbrev main_call4_call0_c_37 : Ref sig .tc := ⟨.hbm, 1480, rfl⟩
abbrev main_call4_call0_v98 : Ref sig .tc := ⟨.hbm, 1481, rfl⟩
abbrev main_call4_call0_v99 : Ref sig .tc := ⟨.hbm, 1482, rfl⟩
abbrev main_call4_call0_v100 : Ref sig .tc := ⟨.hbm, 1483, rfl⟩
abbrev main_call4_call0_v101 : Ref sig .tc := ⟨.hbm, 1484, rfl⟩
abbrev main_call4_call0_c_38 : Ref sig .tc := ⟨.hbm, 1485, rfl⟩
abbrev main_call4_call0_v102 : Ref sig .tc := ⟨.hbm, 1486, rfl⟩
abbrev main_call4_call0_c_39 : Ref sig .tc := ⟨.hbm, 1487, rfl⟩
abbrev main_call4_call0_v103 : Ref sig .tc := ⟨.hbm, 1488, rfl⟩
abbrev main_call4_call0_v104 : Ref sig .tc := ⟨.hbm, 1489, rfl⟩
abbrev main_call4_call0_v105 : Ref sig .tc := ⟨.hbm, 1490, rfl⟩
abbrev main_call4_call0_v106 : Ref sig .tc := ⟨.hbm, 1491, rfl⟩
abbrev main_call4_call0_c_40 : Ref sig .tc := ⟨.hbm, 1492, rfl⟩
abbrev main_call4_call0_v107 : Ref sig .tc := ⟨.hbm, 1493, rfl⟩
abbrev main_call4_call0_c_41 : Ref sig .tc := ⟨.hbm, 1494, rfl⟩
abbrev main_call4_call0_v108 : Ref sig .tc := ⟨.hbm, 1495, rfl⟩
abbrev main_call4_call0_v109 : Ref sig .tc := ⟨.hbm, 1496, rfl⟩
abbrev main_call4_call0_v110 : Ref sig .tc := ⟨.hbm, 1497, rfl⟩
abbrev main_call4_call0_v111 : Ref sig .tc := ⟨.hbm, 1498, rfl⟩
abbrev main_call4_call0_c_42 : Ref sig .tc := ⟨.hbm, 1499, rfl⟩
abbrev main_call4_call0_v112 : Ref sig .tc := ⟨.hbm, 1500, rfl⟩
abbrev main_call4_call0_c_43 : Ref sig .tc := ⟨.hbm, 1501, rfl⟩
abbrev main_call4_call0_v113 : Ref sig .tc := ⟨.hbm, 1502, rfl⟩
abbrev main_call4_call0_v114 : Ref sig .tc := ⟨.hbm, 1503, rfl⟩
abbrev main_call4_call0_v115 : Ref sig .tc := ⟨.hbm, 1504, rfl⟩
abbrev main_call4_v6_0 : Ref sig .tc := ⟨.hbm, 1505, rfl⟩
abbrev main_call4_call0_v117 : Ref sig .tc := ⟨.hbm, 1506, rfl⟩
abbrev main_call4_call0_c_44 : Ref sig .tc := ⟨.hbm, 1507, rfl⟩
abbrev main_call4_v6_1 : Ref sig .tc := ⟨.hbm, 1508, rfl⟩
abbrev main_call4_v7 : Ref sig .tc := ⟨.hbm, 1509, rfl⟩
abbrev main_call4_c_1 : Ref sig .tc := ⟨.hbm, 1510, rfl⟩
abbrev main_call4_v8 : Ref sig .tc := ⟨.hbm, 1511, rfl⟩
abbrev main_call4_c_2 : Ref sig .tc := ⟨.hbm, 1512, rfl⟩
abbrev main_call4_v9 : Ref sig .tc := ⟨.hbm, 1513, rfl⟩
abbrev main_call4_v10 : Ref sig .tc := ⟨.hbm, 1514, rfl⟩
abbrev main_call4_cst : Ref sig .tc := ⟨.hbm, 1515, rfl⟩
abbrev main_call4_v11 : Ref sig .tc := ⟨.hbm, 1516, rfl⟩
abbrev main_call4_v12 : Ref sig .tc := ⟨.hbm, 1517, rfl⟩
abbrev main_call4_v13 : Ref sig .tc := ⟨.hbm, 1518, rfl⟩
abbrev main_call4_v14 : Ref sig .tc := ⟨.hbm, 1519, rfl⟩
abbrev main_call4_v15 : Ref sig .tc := ⟨.hbm, 1520, rfl⟩
abbrev main_v19 : Ref sig .tc := ⟨.hbm, 1521, rfl⟩
abbrev main_cst_7 : Ref sig .tc := ⟨.hbm, 1522, rfl⟩
abbrev main_v20 : Ref sig .tc := ⟨.hbm, 1523, rfl⟩
abbrev main_cst_8 : Ref sig .tc := ⟨.hbm, 1524, rfl⟩
abbrev main_v21 : Ref sig .tc := ⟨.hbm, 1525, rfl⟩
abbrev main_cst_9 : Ref sig .tc := ⟨.hbm, 1526, rfl⟩
abbrev main_v22 : Ref sig .tc := ⟨.hbm, 1527, rfl⟩
abbrev main_v23 : Ref sig .tc := ⟨.hbm, 1528, rfl⟩
abbrev main_v24 : Ref sig .tc := ⟨.hbm, 1529, rfl⟩
abbrev main_v25 : Ref sig .tc := ⟨.hbm, 1530, rfl⟩
abbrev main_v26 : Ref sig .tc := ⟨.hbm, 1531, rfl⟩
abbrev main_v27 : Ref sig .tc := ⟨.hbm, 1532, rfl⟩
abbrev main_v28 : Ref sig .tc := ⟨.hbm, 1533, rfl⟩
abbrev main_v29 : Ref sig .tc := ⟨.hbm, 1534, rfl⟩
abbrev main_v30 : Ref sig .tc := ⟨.hbm, 1535, rfl⟩
abbrev main_call5_v0 : Ref sig .tc := ⟨.hbm, 1536, rfl⟩
abbrev main_call5_v1 : Ref sig .tc := ⟨.hbm, 1537, rfl⟩
abbrev main_v31 : Ref sig .tc := ⟨.hbm, 1538, rfl⟩
abbrev main_v32 : Ref sig .tc := ⟨.hbm, 1539, rfl⟩
abbrev main_v33 : Ref sig .tc := ⟨.hbm, 1540, rfl⟩
abbrev main_v34 : Ref sig .tc := ⟨.hbm, 1541, rfl⟩
abbrev main_v35 : Ref sig .tc := ⟨.hbm, 1542, rfl⟩
abbrev main_cst_10 : Ref sig .tc := ⟨.hbm, 1543, rfl⟩
abbrev main_call6_v0 : Ref sig .tc := ⟨.hbm, 1544, rfl⟩
abbrev main_call6_v1 : Ref sig .tc := ⟨.hbm, 1545, rfl⟩
abbrev main_v36 : Ref sig .tc := ⟨.hbm, 1546, rfl⟩
abbrev main_v37 : Ref sig .tc := ⟨.hbm, 1547, rfl⟩
abbrev main_v38 : Ref sig .tc := ⟨.hbm, 1548, rfl⟩

abbrev nD : Nat := 1
abbrev τ : Topo := Topo.v7x

variable {F : FTy → Type} [FloatOps F]
-- ==== Proof.Body.lean ====
/-
  The body of the kernel: what one run of it does to the argument, the result, the ring of slots and the semaphores.

  The kernel copies the array in 24 chunks through six slots. On the three chunks of the last sample it scales row 109 in
  the slot before the chunk is stored. The program is the idealized kernel, with the scale a named constant.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Pipeline.Value
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The proof's user algebra: the pipeline library's beside the transfers' counters. -/
local notation "𝕄" => MT nD τ sig Unit (Elt F) ℕ (Pipeline.UD sig nD τ) ℕ

/-- The argument, the result and the ring of six slots, each whole. -/
abbrev xM : Memref sig .tc .hbm S8x96x224x224 .f32 := Memref.whole main_arg0
/-- The result, whole. -/
abbrev yM : Memref sig .tc .hbm S8x96x224x224 .f32 := Memref.whole main_v0
/-- The ring of slots, whole. -/
abbrev bufM : Memref sig .tc .vmem S6x32x224x224 .f32 := Memref.whole cc0_scratch0

/-! ## The chunks, the slots and the cells, under one name each

A chunk is one sample and 32 of its channels. The numbers are reduced so that every pair names a
chunk; the kernel uses samples below 8 and first channels 0, 32, 64. -/

/-- Where the chunk of sample `i` from channel `k` on starts. -/
def chOff (i k : ℕ) : Fin 4 → ℕ := ![i % 8, k % 65, 0, 0]
/-- Where slot `s` of the ring starts. -/
def slOff (s : ℕ) : Fin 4 → ℕ := ![s % 6, 0, 0, 0]
/-- Which semaphore slot `s` has. -/
def smOff (s : ℕ) : Fin 1 → ℕ := ![s % 6]

/-- Every chunk lies in the array. -/
theorem chOff_inb (i k : ℕ) : ∀ a, chOff i k a + S1x32x224x224.size a ≤ S8x96x224x224.size a := by
  have hi := Nat.mod_lt i (show 0 < 8 by decide)
  have hk := Nat.mod_lt k (show 0 < 65 by decide)
  intro a; fin_cases a
  · show i % 8 + 1 ≤ 8; omega
  · show k % 65 + 32 ≤ 96; omega
  · show 0 + 224 ≤ 224; omega
  · show 0 + 224 ≤ 224; omega
/-- Every slot lies in the ring. -/
theorem slOff_inb (s : ℕ) : ∀ a, slOff s a + S1x32x224x224.size a ≤ S6x32x224x224.size a := by
  have hs := Nat.mod_lt s (show 0 < 6 by decide)
  intro a; fin_cases a
  · show s % 6 + 1 ≤ 6; omega
  · show 0 + 32 ≤ 32; omega
  · show 0 + 224 ≤ 224; omega
  · show 0 + 224 ≤ 224; omega
/-- Every slot has a semaphore. -/
theorem smOff_inb (s : ℕ) : ∀ a, smOff s a + S1.size a ≤ S6.size a := by
  have hs := Nat.mod_lt s (show 0 < 6 by decide)
  intro a; fin_cases a
  show s % 6 + 1 ≤ 6; omega

/-- The chunk of the argument of sample `i` from channel `k` on. -/
def inC (i k : ℕ) : Memref sig .tc .hbm S32x224x224 .f32 :=
  (xM.slice (Rect.unit (s := S8x96x224x224) (chOff i k) S1x32x224x224.size (chOff_inb i k)) (fun _ => rfl)).squeeze S32x224x224 squeezes_S1x32x224x224_S32x224x224
/-- The same chunk of the result. -/
def outC (i k : ℕ) : Memref sig .tc .hbm S32x224x224 .f32 :=
  (yM.slice (Rect.unit (s := S8x96x224x224) (chOff i k) S1x32x224x224.size (chOff_inb i k)) (fun _ => rfl)).squeeze S32x224x224 squeezes_S1x32x224x224_S32x224x224
/-- Slot `s` of the ring. -/
def rslot (s : ℕ) : Memref sig .tc .vmem S32x224x224 .f32 :=
  (bufM.slice (Rect.unit (s := S6x32x224x224) (slOff s) S1x32x224x224.size (slOff_inb s)) (fun _ => rfl)).squeeze S32x224x224 squeezes_S1x32x224x224_S32x224x224
/-- The cell a load into slot `s` signals, and the cell a store out of it signals. -/
def lsm (s : ℕ) : DmaSems sig S_ := (cc0_scratch1.slice (Rect.unit (s := S6) (smOff s) S1.size (smOff_inb s))).squeeze S_ squeezes_S1_S_
/-- The cell a store out of slot `s` signals. -/
def ssm (s : ℕ) : DmaSems sig S_ := (cc0_scratch2.slice (Rect.unit (s := S6) (smOff s) S1.size (smOff_inb s))).squeeze S_ squeezes_S1_S_

/-- The start of a chunk, for the numbers the kernel writes. -/
theorem chOff_of (i k : ℕ) (h : ∀ a, (![i, k, 0, 0] : Fin 4 → ℕ) a + S1x32x224x224.size a ≤ S8x96x224x224.size a) :
    (![i, k, 0, 0] : Fin 4 → ℕ) = chOff i k := by
  have h0 : i + 1 ≤ 8 := h 0
  have h1 : k + 32 ≤ 96 := h 1
  unfold chOff; rw [Nat.mod_eq_of_lt (show i < 8 by omega), Nat.mod_eq_of_lt (show k < 65 by omega)]
/-- The start of a slot, likewise. -/
theorem slOff_of (s : ℕ) (h : ∀ a, (![s, 0, 0, 0] : Fin 4 → ℕ) a + S1x32x224x224.size a ≤ S6x32x224x224.size a) :
    (![s, 0, 0, 0] : Fin 4 → ℕ) = slOff s := by
  have h0 : s + 1 ≤ 6 := h 0
  unfold slOff; rw [Nat.mod_eq_of_lt (show s < 6 by omega)]
/-- The number of a semaphore, likewise. -/
theorem smOff_of (s : ℕ) (h : ∀ a, (![s] : Fin 1 → ℕ) a + S1.size a ≤ S6.size a) :
    (![s] : Fin 1 → ℕ) = smOff s := by
  have h0 : s + 1 ≤ 6 := h 0
  unfold smOff; rw [Nat.mod_eq_of_lt (show s < 6 by omega)]

/-- The body's slices are these. -/
@[sl_canon] theorem inC_eq (i k : ℕ) (hh hs) :
    (xM.slice (Rect.unit (s := S8x96x224x224) ![i, k, 0, 0] S1x32x224x224.size hh) hs).squeeze S32x224x224 squeezes_S1x32x224x224_S32x224x224 = inC i k :=
  congrArg (fun M : Memref sig .tc .hbm S1x32x224x224 .f32 => M.squeeze S32x224x224 squeezes_S1x32x224x224_S32x224x224) (Memref.slice_unit_congr _ (chOff_of i k hh) _ _ _ _)
@[sl_canon] theorem outC_eq (i k : ℕ) (hh hs) :
    (yM.slice (Rect.unit (s := S8x96x224x224) ![i, k, 0, 0] S1x32x224x224.size hh) hs).squeeze S32x224x224 squeezes_S1x32x224x224_S32x224x224 = outC i k :=
  congrArg (fun M : Memref sig .tc .hbm S1x32x224x224 .f32 => M.squeeze S32x224x224 squeezes_S1x32x224x224_S32x224x224) (Memref.slice_unit_congr _ (chOff_of i k hh) _ _ _ _)
@[sl_canon] theorem rslot_eq (s : ℕ) (hh hs) :
    (bufM.slice (Rect.unit (s := S6x32x224x224) ![s, 0, 0, 0] S1x32x224x224.size hh) hs).squeeze S32x224x224 squeezes_S1x32x224x224_S32x224x224 = rslot s :=
  congrArg (fun M : Memref sig .tc .vmem S1x32x224x224 .f32 => M.squeeze S32x224x224 squeezes_S1x32x224x224_S32x224x224) (Memref.slice_unit_congr _ (slOff_of s hh) _ _ _ _)
@[sl_canon] theorem lsm_eq (s : ℕ) (hh) :
    (cc0_scratch1.slice (Rect.unit (s := S6) ![s] S1.size hh)).squeeze S_ squeezes_S1_S_ = lsm s :=
  congrArg (fun A : DmaSems sig S1 => A.squeeze S_ squeezes_S1_S_) (SemArray.slice_unit_congr _ (smOff_of s hh) _ _)
@[sl_canon] theorem ssm_eq (s : ℕ) (hh) :
    (cc0_scratch2.slice (Rect.unit (s := S6) ![s] S1.size hh)).squeeze S_ squeezes_S1_S_ = ssm s :=
  congrArg (fun A : DmaSems sig S1 => A.squeeze S_ squeezes_S1_S_) (SemArray.slice_unit_congr _ (smOff_of s hh) _ _)

/-! ## What the run holds -/

/-- A semaphore at zero. -/
abbrev cellP (c : Dev nD) (s : DmaSems sig S_) : sProp 𝕄 := semVal ((c : Thread nD τ), SemLoc.dma s.sem) 0
/-- A slot, held at `f`. -/
abbrev slotP (c : Dev nD) (s : ℕ) (f : Buf (Elt F) ((rslot s).view.loc (c : Thread nD τ))) : sProp 𝕄 :=
  (rslot s).view.loc (c : Thread nD τ) ↦[(rslot s).view.set]{fullShare} f
/-- A chunk of the argument, held at the argument's contents. -/
abbrev inP (c : Dev nD) (XA : Buf (Elt F) ((c : Thread nD τ).loc main_arg0)) (i k : ℕ) : sProp 𝕄 :=
  (inC i k).view.loc (c : Thread nD τ) ↦[(inC i k).view.set]{fullShare} XA
/-- A chunk of the result, held at `f`. -/
abbrev outP (c : Dev nD) (i k : ℕ) (f : Buf (Elt F) ((outC i k).view.loc (c : Thread nD τ))) : sProp 𝕄 :=
  (outC i k).view.loc (c : Thread nD τ) ↦[(outC i k).view.set]{fullShare} f

/-- The constant the kernel scales a row by. -/
def scale : F .f32 := Named.named κ "rel" 0x3FDAF6BB#32

/-- What the kernel leaves in the result: the argument, with row 109 of the last sample scaled in every channel. -/
def G (XA : S8x96x224x224.Idx → F .f32) : S8x96x224x224.Idx → F .f32 := fun y =>
  if (y 0).val = 7 ∧ (y 2).val = 109 then mulf XA (broadcast S8x96x224x224 (scale (F := F))) y else XA y

/-- The place in the whole array of element `x` of a chunk. -/
def pos (i k : ℕ) (x : S32x224x224.Idx) : S8x96x224x224.Idx :=
  (Rect.unit (s := S8x96x224x224) (chOff i k) S1x32x224x224.size (chOff_inb i k)).emb (Fin.cons ⟨0, Nat.one_pos⟩ x)

/-- The sample of a chunk's element. -/
theorem pos_zero (i k : ℕ) (x : S32x224x224.Idx) : (pos i k x 0).val = i % 8 := by
  unfold pos; rw [Rect.emb_apply]; show i % 8 + 1 * 0 = i % 8; omega
/-- The row of a chunk's element. -/
theorem pos_two (i k : ℕ) (x : S32x224x224.Idx) : (pos i k x 2).val = (x 1).val := by
  unfold pos; rw [Rect.emb_apply]; show 0 + 1 * (x 1).val = (x 1).val; omega

/-- An element of a chunk of the argument is at its place in the argument. -/
theorem inC_emb (i k : ℕ) (x : S32x224x224.Idx) : (inC i k).view.emb x = pos i k x := by
  have h : (inC i k).view.emb x = (Rect.unit (s := S8x96x224x224) (chOff i k) S1x32x224x224.size (chOff_inb i k)).emb
      (Shape.reshapeEquiv squeezes_S1x32x224x224_S32x224x224.numel_eq x) := rfl
  rw [h, Shape.reshapeEquiv_cons_one]; rfl
/-- An element of a chunk of the result is at its place in the result. -/
theorem outC_emb (i k : ℕ) (x : S32x224x224.Idx) : (outC i k).view.emb x = pos i k x := by
  have h : (outC i k).view.emb x = (Rect.unit (s := S8x96x224x224) (chOff i k) S1x32x224x224.size (chOff_inb i k)).emb
      (Shape.reshapeEquiv squeezes_S1x32x224x224_S32x224x224.numel_eq x) := rfl
  rw [h, Shape.reshapeEquiv_cons_one]; rfl
/-- What is read at an element of a chunk of the argument. -/
theorem inC_read (i k : ℕ) (f : S8x96x224x224.Idx → F .f32) (x : S32x224x224.Idx) : (inC i k).view.read (Elt F) f x = f (pos i k x) := by
  rw [← inC_emb]; rfl

/-- Contents that read the same through a view agree on the view's elements. -/
theorem agree_of_read {sp : Space} {s : Shape} (v : View sig .tc sp s .f32) (f g : v.ty.Contents (Elt F))
    (h : ∀ x, v.read (Elt F) f x = v.read (Elt F) g x) : ∀ y ∈ v.set, f y = g y := by
  intro y hy
  obtain ⟨x, -, rfl⟩ := Finset.mem_map.mp hy
  have := h x
  rw [View.read_apply, View.read_apply] at this
  exact (cast_inj _).mp this

/-- What is read at an element of a chunk of the result. -/
theorem outC_read (i k : ℕ) (f : S8x96x224x224.Idx → F .f32) (x : S32x224x224.Idx) : (outC i k).view.read (Elt F) f x = f (pos i k x) := by
  rw [← outC_emb]; rfl

/-- A chunk of the result written whole with the words the kernel's output has there is that chunk of the output. -/
theorem out_landed (c : Dev nD) (XA : S8x96x224x224.Idx → F .f32) (i k : ℕ) (f : Buf (Elt F) ((outC i k).view.loc (c : Thread nD τ)))
    (w : S32x224x224.Idx → Elt F .f32) (hw : ∀ x, w x = G XA (pos i k x)) :
    outP c i k ((outC i k).view.writes (Elt F) f [⟨Rect.whole S32x224x224, w⟩]) ⊢ outP c i k (G XA) :=
  Entails.of_eq (pointsTo_congr (agree_of_read (outC i k).view _ _ fun x => by
    rw [View.read_writes_whole, hw]; exact (outC_read i k (G XA) x).symm))

/-- A slot last written whole reads as what was written. -/
theorem slot_read (s : ℕ) (f : (rslot s).view.ty.Contents (Elt F)) (u : S32x224x224.Idx → Elt F .f32) (L : List (View.Piece (Elt F) S32x224x224 .f32))
    (x : S32x224x224.Idx) : (rslot s).view.read (Elt F) ((rslot s).view.writes (Elt F) f (⟨Rect.whole S32x224x224, u⟩ :: L)) x = u x := by
  have h := View.read_writes_cons_emb (rslot s).view f (Rect.whole S32x224x224) u L x
  rwa [Rect.emb_whole_apply] at h

/-- A chunk of a sample before the last leaves its slot as it came. -/
theorem carried (s i k : ℕ) {c : Dev nD} (XA : S8x96x224x224.Idx → F .f32) (f : Buf (Elt F) ((rslot s).view.loc (c : Thread nD τ)))
    (L : List (View.Piece (Elt F) S32x224x224 .f32)) (hi : i < 7) (x : S32x224x224.Idx) :
    (rslot s).view.read (Elt F) ((rslot s).view.writes (Elt F) f (⟨Rect.whole S32x224x224, (inC i k).view.read (Elt F) XA⟩ :: L)) x = G XA (pos i k x) := by
  rw [slot_read, inC_read]; unfold G
  rw [if_neg]; rw [pos_zero]; omega

/-- Row 109 of a slot, in each of its channels. -/
abbrev row : Rect S32x224x224 := Rect.unit (s := S32x224x224) ![0, 109, 0] S32x1x224.size inb_S32x224x224_S32x1x224_0_109_0

/-- A chunk of the last sample leaves its slot with row 109 scaled. -/
theorem patched (s k : ℕ) {c : Dev nD} (XA : S8x96x224x224.Idx → F .f32) (f : Buf (Elt F) ((rslot s).view.loc (c : Thread nD τ)))
    (L : List (View.Piece (Elt F) S32x224x224 .f32)) (p : S32x1x224.Idx → F .f32)
    (hp : ∀ x, p x = mulf (fun x => (inC 7 k).view.read (Elt F) XA (row.emb x)) (broadcast S32x1x224 (scale (F := F))) x) (x : S32x224x224.Idx) :
    (rslot s).view.read (Elt F) ((rslot s).view.writes (Elt F) f (⟨row, p⟩ :: ⟨Rect.whole S32x224x224, (inC 7 k).view.read (Elt F) XA⟩ :: L)) x = G XA (pos 7 k x) := by
  by_cases hx : (x 1).val = 109
  · have hr : row.emb (Fin.cons (x 0) (Fin.cons ⟨0, Nat.one_pos⟩ (Fin.cons (x 2) finZeroElim)) : S32x1x224.Idx) = x := by
      funext a; apply Fin.ext; rw [Rect.emb_apply]
      match a with
      | ⟨0, _⟩ => show 0 + 1 * (x 0).val = (x 0).val; omega
      | ⟨1, _⟩ => show 109 + 1 * 0 = (x 1).val; omega
      | ⟨2, _⟩ => show 0 + 1 * (x 2).val = (x 2).val; omega
    rw [View.read_writes_cons_hit (rslot s).view f row p _ _ x hr, hp]
    unfold G
    rw [if_pos ⟨by rw [pos_zero], by rw [pos_two, hx]⟩]
    have e := inC_read 7 k XA x
    rw [← hr] at e
    exact (congrArg (fun z => mulf (fun _ : S32x224x224.Idx => z) (broadcast S32x224x224 (scale (F := F))) x) e).trans (by rw [hr]; rfl)
  · rw [View.read_writes_cons_miss_of_axis (rslot s).view f _ _ x 1 109 1 rfl rfl rfl (by omega), slot_read, inC_read]
    unfold G
    rw [if_neg]; rw [pos_two]; omega

/-- The first chunk of the last sample: what is stored is the row scaled. -/
theorem pay1_eq (v : Vec F S32x1x224 .f32) (x) : k0_pay1 v x = mulf v (broadcast S32x1x224 (scale (F := F))) x := by
  have h := congrFun (shapeCast_shapeCast v shapeCasts_S32x1x224_S32x224 shapeCasts_S32x224_S32x1x224) x
  exact congrArg (fun z => mulf (fun _ : S32x1x224.Idx => z) (broadcast S32x1x224 (scale (F := F))) x) h
/-- The second chunk likewise. -/
theorem pay2_eq (v : Vec F S32x1x224 .f32) (x) : k0_pay2 v x = mulf v (broadcast S32x1x224 (scale (F := F))) x := pay1_eq v x
/-- The third chunk likewise. -/
theorem pay3_eq (v : Vec F S32x1x224 .f32) (x) : k0_pay3 v x = mulf v (broadcast S32x1x224 (scale (F := F))) x := pay1_eq v x

/-- What the body reads of row 109 after a load lands. -/
theorem row_read (s : ℕ) (u : S32x224x224.Idx → Elt F .f32) (L : List (View.Piece (Elt F) S32x224x224 .f32)) (x : S32x1x224.Idx) :
    (rslot s).view.readCov (⟨Rect.whole S32x224x224, u⟩ :: L) row.toLoadRect x = u (row.emb x) :=
  slot_read s (rslot s).view.junk u L (row.emb x)

/-- Every chunk of the argument, held at the argument's contents. -/
def inPs (c : Dev nD) (XA : Buf (Elt F) ((c : Thread nD τ).loc main_arg0)) : sProp 𝕄 :=
  iprop(inP c XA 0 0 ∗ inP c XA 0 32 ∗ inP c XA 0 64 ∗ inP c XA 1 0 ∗ inP c XA 1 32 ∗ inP c XA 1 64 ∗ inP c XA 2 0 ∗ inP c XA 2 32 ∗ inP c XA 2 64 ∗ inP c XA 3 0 ∗ inP c XA 3 32 ∗ inP c XA 3 64 ∗ inP c XA 4 0 ∗ inP c XA 4 32 ∗ inP c XA 4 64 ∗ inP c XA 5 0 ∗ inP c XA 5 32 ∗ inP c XA 5 64 ∗ inP c XA 6 0 ∗ inP c XA 6 32 ∗ inP c XA 6 64 ∗ inP c XA 7 0 ∗ inP c XA 7 32 ∗ inP c XA 7 64)

/-- Every chunk of the result, held at anything. -/
def outPs (c : Dev nD) : sProp 𝕄 :=
  iprop((∃ f, outP c 0 0 f) ∗ (∃ f, outP c 0 32 f) ∗ (∃ f, outP c 0 64 f) ∗ (∃ f, outP c 1 0 f) ∗ (∃ f, outP c 1 32 f) ∗ (∃ f, outP c 1 64 f) ∗ (∃ f, outP c 2 0 f) ∗ (∃ f, outP c 2 32 f) ∗ (∃ f, outP c 2 64 f) ∗ (∃ f, outP c 3 0 f) ∗ (∃ f, outP c 3 32 f) ∗ (∃ f, outP c 3 64 f) ∗ (∃ f, outP c 4 0 f) ∗ (∃ f, outP c 4 32 f) ∗ (∃ f, outP c 4 64 f) ∗ (∃ f, outP c 5 0 f) ∗ (∃ f, outP c 5 32 f) ∗ (∃ f, outP c 5 64 f) ∗ (∃ f, outP c 6 0 f) ∗ (∃ f, outP c 6 32 f) ∗ (∃ f, outP c 6 64 f) ∗ (∃ f, outP c 7 0 f) ∗ (∃ f, outP c 7 32 f) ∗ (∃ f, outP c 7 64 f))

/-- Every chunk of the result, at the kernel's output. -/
def outQs (c : Dev nD) (XA : Buf (Elt F) ((c : Thread nD τ).loc main_arg0)) : sProp 𝕄 :=
  iprop(outP c 0 0 (G XA) ∗ outP c 0 32 (G XA) ∗ outP c 0 64 (G XA) ∗ outP c 1 0 (G XA) ∗ outP c 1 32 (G XA) ∗ outP c 1 64 (G XA) ∗ outP c 2 0 (G XA) ∗ outP c 2 32 (G XA) ∗ outP c 2 64 (G XA) ∗ outP c 3 0 (G XA) ∗ outP c 3 32 (G XA) ∗ outP c 3 64 (G XA) ∗ outP c 4 0 (G XA) ∗ outP c 4 32 (G XA) ∗ outP c 4 64 (G XA) ∗ outP c 5 0 (G XA) ∗ outP c 5 32 (G XA) ∗ outP c 5 64 (G XA) ∗ outP c 6 0 (G XA) ∗ outP c 6 32 (G XA) ∗ outP c 6 64 (G XA) ∗ outP c 7 0 (G XA) ∗ outP c 7 32 (G XA) ∗ outP c 7 64 (G XA))

/-- Every slot, held at anything. -/
def slotPs (c : Dev nD) : sProp 𝕄 :=
  iprop((∃ f, slotP (F := F) c 0 f) ∗ (∃ f, slotP (F := F) c 1 f) ∗ (∃ f, slotP (F := F) c 2 f) ∗ (∃ f, slotP (F := F) c 3 f) ∗ (∃ f, slotP (F := F) c 4 f) ∗ (∃ f, slotP (F := F) c 5 f))

/-- Every semaphore, at zero. -/
def cellPs (c : Dev nD) : sProp 𝕄 :=
  iprop(cellP (F := F) c (lsm 0) ∗ cellP (F := F) c (lsm 1) ∗ cellP (F := F) c (lsm 2) ∗ cellP (F := F) c (lsm 3) ∗ cellP (F := F) c (lsm 4) ∗ cellP (F := F) c (lsm 5) ∗ cellP (F := F) c (ssm 0) ∗ cellP (F := F) c (ssm 1) ∗ cellP (F := F) c (ssm 2) ∗ cellP (F := F) c (ssm 3) ∗ cellP (F := F) c (ssm 4) ∗ cellP (F := F) c (ssm 5))

/-- The body runs: from the argument, the result at anything, the ring and the semaphores at zero, to the same with the result at `G`. -/
theorem body_run (c : Dev nD) (XA : Buf (Elt F) ((c : Thread nD τ).loc main_arg0)) (W) (K : PUnit → sProp 𝕄) :
    iprop(inPs c XA ∗ outPs c ∗ slotPs c ∗ cellPs c ∗ owes (c : Thread nD τ) 0 W
        ∗ (iprop(inPs c XA ∗ outQs c XA ∗ slotPs c ∗ cellPs c ∗ ∃ W', owes (c : Thread nD τ) 0 W') -∗ K ⟨⟩))
      ⊢ wp frame (wpE (defs₀ (F := F)) Variants.none c none) Set.univ
          (cc0_body xM (Memref.isWhole_whole _) yM (Memref.isWhole_whole _) bufM (Memref.isWhole_whole _) cc0_scratch1 cc0_scratch2) K := by
  unfold inPs outPs slotPs cellPs
  iintro ⟨⟨Hi0, Hi1, Hi2, Hi3, Hi4, Hi5, Hi6, Hi7, Hi8, Hi9, Hi10, Hi11, Hi12, Hi13, Hi14, Hi15, Hi16, Hi17, Hi18, Hi19, Hi20, Hi21, Hi22, Hi23⟩, ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩, ⟨%fo10, Ho10⟩, ⟨%fo11, Ho11⟩, ⟨%fo12, Ho12⟩, ⟨%fo13, Ho13⟩, ⟨%fo14, Ho14⟩, ⟨%fo15, Ho15⟩, ⟨%fo16, Ho16⟩, ⟨%fo17, Ho17⟩, ⟨%fo18, Ho18⟩, ⟨%fo19, Ho19⟩, ⟨%fo20, Ho20⟩, ⟨%fo21, Ho21⟩, ⟨%fo22, Ho22⟩, ⟨%fo23, Ho23⟩⟩, ⟨⟨%fs0, Hs0⟩, ⟨%fs1, Hs1⟩, ⟨%fs2, Hs2⟩, ⟨%fs3, Hs3⟩, ⟨%fs4, Hs4⟩, ⟨%fs5, Hs5⟩⟩, ⟨Hl0, Hl1, Hl2, Hl3, Hl4, Hl5, Ht0, Ht1, Ht2, Ht3, Ht4, Ht5⟩, HW, Hk⟩
  sl_exec_parts
  sl_step
  iapply Hk

  ihave Ho0 := (out_landed c XA 0 0 fo0 (body_run.sl.dma0_4 c XA fs0) (carried 0 0 0 XA fs0 _ (by decide))) $$ Ho0
  ihave Ho1 := (out_landed c XA 0 32 fo1 (body_run.sl.dma0_6 c XA fs1) (carried 1 0 32 XA fs1 _ (by decide))) $$ Ho1
  ihave Ho2 := (out_landed c XA 0 64 fo2 (body_run.sl.dma0_8 c XA fs2) (carried 2 0 64 XA fs2 _ (by decide))) $$ Ho2
  ihave Ho3 := (out_landed c XA 1 0 fo3 (body_run.sl.dma0_10 c XA fs3) (carried 3 1 0 XA fs3 _ (by decide))) $$ Ho3
  ihave Ho4 := (out_landed c XA 1 32 fo4 (body_run.sl.dma0_12 c XA fs4) (carried 4 1 32 XA fs4 _ (by decide))) $$ Ho4
  ihave Ho5 := (out_landed c XA 1 64 fo5 (body_run.sl.dma0_14 c XA fs5) (carried 5 1 64 XA fs5 _ (by decide))) $$ Ho5
  ihave Ho6 := (out_landed c XA 2 0 fo6 (body_run.sl.dma0_16 c XA fs0) (carried 0 2 0 XA fs0 _ (by decide))) $$ Ho6
  ihave Ho7 := (out_landed c XA 2 32 fo7 (body_run.sl.dma0_18 c XA fs1) (carried 1 2 32 XA fs1 _ (by decide))) $$ Ho7
  ihave Ho8 := (out_landed c XA 2 64 fo8 (body_run.sl.dma0_20 c XA fs2) (carried 2 2 64 XA fs2 _ (by decide))) $$ Ho8
  ihave Ho9 := (out_landed c XA 3 0 fo9 (body_run.sl.dma0_22 c XA fs3) (carried 3 3 0 XA fs3 _ (by decide))) $$ Ho9
  ihave Ho10 := (out_landed c XA 3 32 fo10 (body_run.sl.dma0_24 c XA fs4) (carried 4 3 32 XA fs4 _ (by decide))) $$ Ho10
  ihave Ho11 := (out_landed c XA 3 64 fo11 (body_run.sl.dma0_26 c XA fs5) (carried 5 3 64 XA fs5 _ (by decide))) $$ Ho11
  ihave Ho12 := (out_landed c XA 4 0 fo12 (body_run.sl.dma0_28 c XA fs0) (carried 0 4 0 XA fs0 _ (by decide))) $$ Ho12
  ihave Ho13 := (out_landed c XA 4 32 fo13 (body_run.sl.dma0_30 c XA fs1) (carried 1 4 32 XA fs1 _ (by decide))) $$ Ho13
  ihave Ho14 := (out_landed c XA 4 64 fo14 (body_run.sl.dma0_32 c XA fs2) (carried 2 4 64 XA fs2 _ (by decide))) $$ Ho14
  ihave Ho15 := (out_landed c XA 5 0 fo15 (body_run.sl.dma0_34 c XA fs3) (carried 3 5 0 XA fs3 _ (by decide))) $$ Ho15
  ihave Ho16 := (out_landed c XA 5 32 fo16 (body_run.sl.dma0_36 c XA fs4) (carried 4 5 32 XA fs4 _ (by decide))) $$ Ho16
  ihave Ho17 := (out_landed c XA 5 64 fo17 (body_run.sl.dma0_38 c XA fs5) (carried 5 5 64 XA fs5 _ (by decide))) $$ Ho17
  ihave Ho18 := (out_landed c XA 6 0 fo18 (body_run.sl.dma0_40 c XA fs0) (carried 0 6 0 XA fs0 _ (by decide))) $$ Ho18
  ihave Ho19 := (out_landed c XA 6 32 fo19 (body_run.sl.dma0_42 c XA fs1) (carried 1 6 32 XA fs1 _ (by decide))) $$ Ho19
  ihave Ho20 := (out_landed c XA 6 64 fo20 (body_run.sl.dma0_44 c XA fs2) (carried 2 6 64 XA fs2 _ (by decide))) $$ Ho20
  ihave Ho21 := (out_landed c XA 7 0 fo21 (body_run.sl.dma3 c XA fs3) (patched 3 0 XA fs3 _ _ fun x => (pay1_eq _ x).trans (by rw [show body_run.sl.v518 c XA = _ from funext (row_read 3 _ _)]; rfl))) $$ Ho21
  ihave Ho22 := (out_landed c XA 7 32 fo22 (body_run.sl.dma6 c XA fs4) (patched 4 32 XA fs4 _ _ fun x => (pay2_eq _ x).trans (by rw [show body_run.sl.v547 c XA = _ from funext (row_read 4 _ _)]; rfl))) $$ Ho22
  ihave Ho23 := (out_landed c XA 7 64 fo23 (body_run.sl.dma9 c XA fs5) (patched 5 64 XA fs5 _ _ fun x => (pay3_eq _ x).trans (by rw [show body_run.sl.v576 c XA = _ from funext (row_read 5 _ _)]; rfl))) $$ Ho23
  isplitl [Hi0 Hi1 Hi2 Hi3 Hi4 Hi5 Hi6 Hi7 Hi8 Hi9 Hi10 Hi11 Hi12 Hi13 Hi14 Hi15 Hi16 Hi17 Hi18 Hi19 Hi20 Hi21 Hi22 Hi23]
  · iframe
  isplitl [Ho0 Ho1 Ho2 Ho3 Ho4 Ho5 Ho6 Ho7 Ho8 Ho9 Ho10 Ho11 Ho12 Ho13 Ho14 Ho15 Ho16 Ho17 Ho18 Ho19 Ho20 Ho21 Ho22 Ho23]
  · unfold outQs; iframe
  isplitl [Hs0 Hs1 Hs2 Hs3 Hs4 Hs5]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexists _; iexact Hs5
  isplitl [Hl0 Hl1 Hl2 Hl3 Hl4 Hl5 Ht0 Ht1 Ht2 Ht3 Ht4 Ht5]
  · isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Ht0]; · iexact Ht0
    isplitl [Ht1]; · iexact Ht1
    isplitl [Ht2]; · iexact Ht2
    isplitl [Ht3]; · iexact Ht3
    isplitl [Ht4]; · iexact Ht4
    iexact Ht5
  iexists _; iexact HW

end Cert.KernelIdeal.Hand

end
-- ==== Proof.Launch.lean ====
/-
  The launch of the kernel: the arrays cut into chunks and joined again, and what a run of the program ends with. The program is the idealized kernel, with the scale a named constant.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The arrays as their chunks, the ring as its slots -/

/-- The elements of chunk `b`, and of slot `s`. -/
abbrev chSet (b : Fin 24) : Finset S8x96x224x224.Idx :=
  (Rect.unit (s := S8x96x224x224) (chOff (b.val / 3) (32 * (b.val % 3))) S1x32x224x224.size (chOff_inb _ _)).set
/-- The elements of slot `s`. -/
abbrev slSet (s : Fin 6) : Finset S6x32x224x224.Idx :=
  (Rect.unit (s := S6x32x224x224) (slOff s.val) S1x32x224x224.size (slOff_inb _)).set

/-- The elements a chunk of the argument is made of. -/
theorem inC_set (i k : ℕ) : (inC i k).view.set = (Rect.unit (s := S8x96x224x224) (chOff i k) S1x32x224x224.size (chOff_inb i k)).set :=
  (View.set_reshape _ _).trans (View.set_slice_whole _ _)
/-- The elements a chunk of the result is made of. -/
theorem outC_set (i k : ℕ) : (outC i k).view.set = (Rect.unit (s := S8x96x224x224) (chOff i k) S1x32x224x224.size (chOff_inb i k)).set :=
  (View.set_reshape _ _).trans (View.set_slice_whole _ _)
/-- The elements a slot is made of. -/
theorem rslot_set (s : ℕ) : (rslot s).view.set = (Rect.unit (s := S6x32x224x224) (slOff s) S1x32x224x224.size (slOff_inb s)).set :=
  (View.set_reshape _ _).trans (View.set_slice_whole _ _)

/-- Which chunk an element is in. -/
theorem mem_chSet (b : Fin 24) (y : S8x96x224x224.Idx) : y ∈ chSet b ↔ 3 * (y 0).val + (y 1).val / 32 = b.val := by
  rw [Rect.mem_set_unit]
  have hb := b.isLt
  have h0 : (y 0).val < 8 := (y 0).isLt
  have hm : 32 * (b.val % 3) % 65 = 32 * (b.val % 3) := Nat.mod_eq_of_lt (by omega)
  have hm' : b.val / 3 % 8 = b.val / 3 := Nat.mod_eq_of_lt (by omega)
  have h1 : (y 1).val < 96 := (y 1).isLt
  have h2 : (y 2).val < 224 := (y 2).isLt
  have h3 : (y 3).val < 224 := (y 3).isLt
  constructor
  · intro H
    have a0 : b.val / 3 % 8 ≤ (y 0).val ∧ (y 0).val < b.val / 3 % 8 + 1 := H 0
    have a1 : 32 * (b.val % 3) % 65 ≤ (y 1).val ∧ (y 1).val < 32 * (b.val % 3) % 65 + 32 := H 1
    rw [hm'] at a0; rw [hm] at a1
    omega
  · intro H i; fin_cases i
    · show b.val / 3 % 8 ≤ (y 0).val ∧ (y 0).val < b.val / 3 % 8 + 1; rw [hm']; omega
    · show 32 * (b.val % 3) % 65 ≤ (y 1).val ∧ (y 1).val < 32 * (b.val % 3) % 65 + 32; rw [hm]; omega
    · show 0 ≤ (y 2).val ∧ (y 2).val < 0 + 224; omega
    · show 0 ≤ (y 3).val ∧ (y 3).val < 0 + 224; omega
/-- Which slot an element is in. -/
theorem mem_slSet (s : Fin 6) (y : S6x32x224x224.Idx) : y ∈ slSet s ↔ (y 0).val = s.val := by
  rw [Rect.mem_set_unit]
  have hs := s.isLt
  have h1 : (y 1).val < 32 := (y 1).isLt
  have h2 : (y 2).val < 224 := (y 2).isLt
  have h3 : (y 3).val < 224 := (y 3).isLt
  constructor
  · intro H; have a0 : s.val % 6 ≤ (y 0).val ∧ (y 0).val < s.val % 6 + 1 := H 0; omega
  · intro H i; fin_cases i
    · show s.val % 6 ≤ (y 0).val ∧ (y 0).val < s.val % 6 + 1; omega
    · show 0 ≤ (y 1).val ∧ (y 1).val < 0 + 32; omega
    · show 0 ≤ (y 2).val ∧ (y 2).val < 0 + 224; omega
    · show 0 ≤ (y 3).val ∧ (y 3).val < 0 + 224; omega

/-- Chunks do not meet. -/
theorem chSet_disjoint : ∀ b b' : Fin 24, b ≠ b' → Disjoint (chSet b) (chSet b') := by
  intro b b' hne; rw [Finset.disjoint_left]; intro y hy hy'; rw [mem_chSet] at hy hy'; exact hne (Fin.ext (hy.symm.trans hy'))
/-- The chunks are the whole array. -/
theorem chSet_cover : (Finset.univ : Finset (Fin 24)).biUnion chSet = Finset.univ := by
  ext y; simp only [Finset.mem_biUnion, Finset.mem_univ, true_and, iff_true]
  have h0 : (y 0).val < 8 := (y 0).isLt
  have h1 : (y 1).val < 96 := (y 1).isLt
  exact ⟨⟨3 * (y 0).val + (y 1).val / 32, by omega⟩, by rw [mem_chSet]⟩
/-- Slots do not meet. -/
theorem slSet_disjoint : ∀ b b' : Fin 6, b ≠ b' → Disjoint (slSet b) (slSet b') := by
  intro b b' hne; rw [Finset.disjoint_left]; intro y hy hy'; rw [mem_slSet] at hy hy'; exact hne (Fin.ext (hy.symm.trans hy'))
/-- The slots are the whole ring. -/
theorem slSet_cover : (Finset.univ : Finset (Fin 6)).biUnion slSet = Finset.univ := by
  ext y; simp only [Finset.mem_biUnion, Finset.mem_univ, true_and, iff_true]; exact ⟨(y 0).cast (by decide), by rw [mem_slSet]; rfl⟩

/-- The 24 chunks in order. -/
abbrev chunks : List (Fin 24) := [0, 1, 2, 3, 4, 5, 6, 7, 8, 9, 10, 11, 12, 13, 14, 15, 16, 17, 18, 19, 20, 21, 22, 23]

/-- A statement for every chunk, as a list. -/
theorem chunks_eq (Φ : Fin 24 → sProp 𝕄) : bigSep Finset.univ Φ = bigSepL chunks Φ := bigSep_univ_eq_bigSepL chunks (by decide) (by decide) Φ

/-- The argument whole is its chunks. -/
theorem arg_eq (c : Dev nD) (XA : Buf (Elt F) ((c : Thread nD τ).loc main_arg0)) :
    (((c : Thread nD τ).loc main_arg0) ↦{fullShare} XA : sProp 𝕄) = inPs c XA := by
  rw [Ring.pointsTo_blocks (ℓ := (c : Thread nD τ).loc main_arg0) chSet chSet_disjoint chSet_cover]
  have h : (bigSep Finset.univ fun b : Fin 24 => ((c : Thread nD τ).loc main_arg0 ↦[chSet b]{fullShare} XA : sProp 𝕄))
      = bigSep Finset.univ fun b : Fin 24 => inP c XA (b.val / 3) (32 * (b.val % 3)) :=
    bigSep_congr fun b _ => by unfold inP; rw [inC_set]; rfl
  rw [h, chunks_eq]; rfl
/-- The result whole is its chunks. -/
theorem res_eq (c : Dev nD) (f : Buf (Elt F) ((c : Thread nD τ).loc main_v0)) :
    (((c : Thread nD τ).loc main_v0) ↦{fullShare} f : sProp 𝕄) = bigSep Finset.univ fun b : Fin 24 => outP c (b.val / 3) (32 * (b.val % 3)) f := by
  rw [Ring.pointsTo_blocks (ℓ := (c : Thread nD τ).loc main_v0) chSet chSet_disjoint chSet_cover]
  exact bigSep_congr fun b _ => by unfold outP; rw [outC_set]; rfl
/-- The result whole gives its chunks, each held at anything. -/
theorem res_out (c : Dev nD) (f : Buf (Elt F) ((c : Thread nD τ).loc main_v0)) :
    (((c : Thread nD τ).loc main_v0) ↦{fullShare} f : sProp 𝕄) ⊢ outPs c := by
  rw [res_eq]
  refine BIBase.Entails.trans (bigSep_mono (Ψ := fun b : Fin 24 => iprop(∃ f, outP c (b.val / 3) (32 * (b.val % 3)) f)) fun b _ => ?_) ?_
  · show (outP c (b.val / 3) (32 * (b.val % 3)) f : sProp 𝕄) ⊢ iprop(∃ f, outP c (b.val / 3) (32 * (b.val % 3)) f)
    iintro H; iexists f; iexact H
  · rw [chunks_eq]; exact (BIBase.Entails.rfl : (outPs c : sProp 𝕄) ⊢ outPs c)
/-- The chunks at the output give the result whole at the output. -/
theorem res_back (c : Dev nD) (XA : Buf (Elt F) ((c : Thread nD τ).loc main_arg0)) :
    (outQs c XA : sProp 𝕄) ⊢ ((c : Thread nD τ).loc main_v0) ↦{fullShare} G XA := by
  rw [res_eq, chunks_eq]; exact BIBase.Entails.rfl

/-- A statement for every slot, as a list. -/
theorem slots_eq (Φ : Fin 6 → sProp 𝕄) : bigSep Finset.univ Φ = bigSepL [0, 1, 2, 3, 4, 5] Φ := bigSep_univ_eq_bigSepL _ (by decide) (by decide) Φ
/-- The ring whole at something is its slots, each at something, and back. -/
theorem buf_split (c : Dev nD) :
    iprop(∃ f : Buf (Elt F) ((c : Thread nD τ).loc cc0_scratch0), ((c : Thread nD τ).loc cc0_scratch0) ↦{fullShare} f) ⊢ (slotPs c : sProp 𝕄) := by
  iintro ⟨%f, H⟩
  have h : (((c : Thread nD τ).loc cc0_scratch0) ↦{fullShare} f : sProp 𝕄) ⊢ slotPs c := by
    rw [Ring.pointsTo_blocks (ℓ := (c : Thread nD τ).loc cc0_scratch0) slSet slSet_disjoint slSet_cover]
    refine BIBase.Entails.trans (bigSep_mono (Ψ := fun b : Fin 6 => iprop(∃ f, slotP (F := F) c b.val f)) fun b _ => ?_) ?_
    · show (((c : Thread nD τ).loc cc0_scratch0) ↦[slSet b]{fullShare} f : sProp 𝕄) ⊢ iprop(∃ f, slotP (F := F) c b.val f)
      iintro H; iexists f; unfold slotP; rw [rslot_set]; iexact H
    · rw [slots_eq]; exact (BIBase.Entails.rfl : (slotPs c : sProp 𝕄) ⊢ slotPs c)
  iapply h; iexact H
/-- The slots, each at something, give the ring whole at something. -/
theorem buf_join (c : Dev nD) :
    (slotPs c : sProp 𝕄) ⊢ iprop(∃ f : Buf (Elt F) ((c : Thread nD τ).loc cc0_scratch0), ((c : Thread nD τ).loc cc0_scratch0) ↦{fullShare} f) := by
  refine BIBase.Entails.trans ?_ (Ring.pointsTo_blocks_join_exists (ℓ := (c : Thread nD τ).loc cc0_scratch0) slSet slSet_disjoint slSet_cover fun _ => Classical.arbitrary _)
  refine BIBase.Entails.trans (Q := bigSep Finset.univ fun b : Fin 6 => iprop(∃ f, slotP (F := F) c b.val f)) ?_ (bigSep_mono fun b _ => ?_)
  · rw [slots_eq]; exact BIBase.Entails.rfl
  · show (iprop(∃ f, slotP (F := F) c b.val f) : sProp 𝕄) ⊢ iprop(∃ f, ((c : Thread nD τ).loc cc0_scratch0) ↦[slSet b]{fullShare} f)
    iintro ⟨%f, H⟩; iexists f; unfold slotP; rw [rslot_set]; iexact H

/-! ## The proof data and the launch -/

/-- The buffers at the launch. -/
abbrev V (c : Dev nD) (b : Ref sig .tc) : Buf (Elt F) ((c : Thread nD τ).loc b) := m ((c : Thread nD τ).loc b)

/-- The buffers after the run: the result at the kernel's output, everything else as it was. -/
def Gv (c : Dev nD) (b : Ref sig .tc) : Buf (Elt F) ((c : Thread nD τ).loc b) :=
  if h : b = main_v0 then h ▸ G (m ((c : Thread nD τ).loc main_arg0)) else m ((c : Thread nD τ).loc b)

/-- The program is one launch of the pipeline. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's semaphores. -/
abbrev osem0 : Fin 12 → SemLoc sig := fun j => SemLoc.dma j
/-- They are the launch's own, each once. -/
theorem ownSemFacts0 : Pipeline.OwnSemFacts cfg0.spec osem0 := by decide
/-- They, at zero, are the cells of the body. -/
theorem ownSems_eq (c : Dev nD) :
    (Pipeline.ownSems0 (Ix := Unit) (Name := ℕ) (U := Pipeline.UD sig nD τ) (Lvl := ℕ) (Val := Elt F) (τ := τ) osem0 c : sProp 𝕄) = cellPs c := by
  rw [Pipeline.ownSems0_eq_of_list c osem0 [0, 1, 2, 3, 4, 5, 6, 7, 8, 9, 10, 11] (by decide) (by decide)]; rfl

/-- The buffers the kernel leaves as they are. -/
def H0 : Finset (Ref sig .tc) := {main_arg0}
/-- The buffers the kernel writes. -/
def R0 : Finset (Ref sig .tc) := {main_v0}
/-- The argument is no window of the pipeline. -/
theorem H0_sub : H0 ⊆ Pipeline.restRefs sig cfg0.spec := by decide
/-- The result is no window of the pipeline, nor the argument. -/
theorem R0_sub : R0 ⊆ Pipeline.restRefs sig cfg0.spec \ H0 := by decide

/-- What the body is given and gives back, `W` the contents of the result. -/
theorem inv_eq (c : Dev nD) (W : (c : Dev nD) → (b : Ref sig .tc) → Buf (Elt F) ((c : Thread nD τ).loc b)) :
    (Pipeline.ΦDRG osem0 cfg0.spec H0 R0 (V m) W c : sProp 𝕄)
      = iprop((∃ f : Buf (Elt F) ((c : Thread nD τ).loc cc0_scratch0), ((c : Thread nD τ).loc cc0_scratch0) ↦{fullShare} f) ∗ (∃ r, prngReg c r)
          ∗ cellPs c ∗ inPs c (m ((c : Thread nD τ).loc main_arg0)) ∗ (((c : Thread nD τ).loc main_v0) ↦{fullShare} W c main_v0)) := by
  rw [Pipeline.ΦDRG_eq, scopedRest0_eq, ownSems_eq, ← arg_eq]
  unfold H0 R0
  rw [Pipeline.routed_singleton, BI.bigSep_singleton]

/-- The proof data of the one pipeline on core `c`: no windows; before the body the result as launched, after it the
    kernel's output. -/
def dats (_ : Fin 1) (c : Dev nD) : Dat τ (Elt F) Unit ℕ (Pipeline.UD sig nD τ) ℕ cfg0 c where
  A w := w.elim0
  after w t := w.elim0
  Φ t := if t.val = 0 then Pipeline.ΦDRG osem0 cfg0.spec H0 R0 (V m) (V m) c else Pipeline.ΦDRG osem0 cfg0.spec H0 R0 (V m) (Gv m) c
  q w := w.elim0
  owed _ := 0

/-- Before the body: everything as launched. -/
theorem inv_zero (c : Dev nD) (t : Fin (cfg0.N + 1)) (h : t.val = 0) : (dats m 0 c).Φ t = Pipeline.ΦDRG osem0 cfg0.spec H0 R0 (V m) (V m) c := by
  simp only [dats, h, if_true]
/-- After the body: the result at the output. -/
theorem inv_pos (c : Dev nD) (t : Fin (cfg0.N + 1)) (h : t.val ≠ 0) : (dats m 0 c).Φ t = Pipeline.ΦDRG osem0 cfg0.spec H0 R0 (V m) (Gv m) c := by
  simp only [dats, h, if_false]

/-- There are no windows. -/
theorem bigSep_W0 (Φ : Fin 0 → sProp 𝕄) : bigSep Finset.univ Φ = (BI.emp : sProp 𝕄) := bigSep_univ_eq_bigSepL [] (by decide) (by decide) Φ

/-- The body takes what is held before it to what is held after it. -/
theorem sound_body (c : Dev nD) (t : Fin cfg0.N) :
    iprop((dats m 0 c).Φ t.castSucc ∗ (dats m 0 c).owesAt () t.castSucc ∗ (BI.emp : sProp 𝕄))
      ⊢ wp frame (wpE (defs₀ (F := F)) Variants.none c none) Set.univ (bodyAt0 t) (fun _ => iprop((dats m 0 c).Φ t.succ ∗ (dats m 0 c).owesAt () t.succ ∗ (BI.emp : sProp 𝕄))) := by
  have ht : t.val = 0 := by have := t.isLt; have h : cfg0.N = 1 := N_0; omega
  rw [inv_zero m c t.castSucc ht, inv_pos m c t.succ (Nat.succ_ne_zero _), inv_eq, inv_eq]
  unfold Dat.owesAt Pipeline.owesWithin bodyAt0
  rw [show (dats m 0 c).owed t.castSucc = 0 from rfl, show (dats m 0 c).owed t.succ = 0 from rfl,
    show Gv m c main_v0 = G (m ((c : Thread nD τ).loc main_arg0)) from dif_pos rfl]
  iintro ⟨⟨Hb, Hg, Hc, Hi, Ho⟩, ⟨%W, -, HW⟩, -⟩
  iapply (body_run c (m ((c : Thread nD τ).loc main_arg0)) W _)
  isplitl [Hi]; · iexact Hi
  isplitl [Ho]; · iapply (res_out c _); iexact Ho
  isplitl [Hb]; · iapply (buf_split c); iexact Hb
  isplitl [Hc]; · iexact Hc
  isplitl [HW]; · iexact HW
  iintro ⟨Hi, Ho, Hb, Hc, ⟨%W', HW'⟩⟩
  isplitl [Hi Ho Hb Hc Hg]
  · isplitl [Hb]; · iapply (buf_join c); iexact Hb
    isplitl [Hg]; · iexact Hg
    isplitl [Hc]; · iexact Hc
    isplitl [Hi]; · iexact Hi
    iapply (res_back c _); iexact Ho
  isplitl [HW']
  · iexists W'; isplitr; · ipureintro; exact fun _ _ => Or.inl trivial
    iexact HW'
  iempintro

/-- The body of the one step. -/
theorem defs₀_row (t : Fin cfg0.N) :
    defs₀ (F := F) .tc cfg0.body (cfg0.bodyArgs t (cfg0.slots t)) = bodyAt0 t := by
  unfold defs₀; rw [Defs.onTc_tc]

/-- The obligation of the pipeline for its one step. -/
theorem body_obligation (c : Dev nD) : BodyObligation (dats (F := F) m 0 c) (defs₀ (F := F)) Variants.none () Set.univ := fun t => by
  rw [defs₀_row]
  rw [bigSep_W0, bigSep_W0]
  exact triple_restated (sound_body m c t) rfl .rfl fun _ => .rfl

set_option backward.isDefEq.respectTransparency.types false in
/-- A run of the launch ends with the buffers at `Gv` and every counter at zero. -/
theorem run_main : θ_run defs (onTc (τ := τ) (main (F := F))) (s₀ m ρ)
    (fun r => Pipeline.FramePostRG cfgs (dats m) 0 R0 (V m) (Gv m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun w => w.elim0)
    (howed := fun _ _ => rfl) (V := V m) (hmain := hmain m Variants.none) (hA := fun c w => w.elim0) (G := Gv m)
    (hin := fun c => Entails.of_eq (inv_zero m c 0 rfl).symm) (hout := fun c => Entails.of_eq (inv_pos m c (Fin.last _) (by decide)))

/-- The program runs, its argument ends unchanged, its result is `G` of the argument, and every counter ends at zero. -/
theorem run : θ_run defs (onTc (τ := τ) (main (F := F))) ⟨m, fun _ => 0, ρ⟩ (fun r => (∀ c : Dev nD,
      r.2.mem ((c.tc : Thread nD τ).loc main_v0) = G (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c => ⟨(h.1.2 c main_v0 (by decide)).trans (dif_pos rfl),
    (h.1.1 c).2 main_arg0 (Finset.mem_sdiff.mpr ⟨Pipeline.mem_restRefs_of main_arg0 (by decide) (by decide), by decide⟩)⟩, h.2⟩) (run_main m ρ)

end Cert.KernelIdeal.Hand

end
-- ==== Proof.Table.lean ====
/-
  The small host values of the reference, by a table.

  The reference draws its random numbers with integer operations on tensors of at most eight elements, and then reads
  them as fractions. Every one of these values is a closed number, so the whole part of the program before the large
  masks can be followed with a table: for each buffer written so far, the list of its elements as natural numbers. An
  integer element is its unsigned value; a float element `n` stands for the real number `n / 2^25`, which covers every
  float this part of the program meets. This module defines the tables, what it means for a table to describe a
  device's memory, and one step for each kind of operation.
-/
module

public import proofs.«01_k».proof.ReferenceIdeal
public import Idealize.ShloMosaic.Lib.StableHlo.RunHlo
public import Idealize.ShloMosaic.PureOps.Ideal

@[expose] public section

open Idealize.ShloMosaic Idealize.ShloMosaic.TcCoe Idealize.SL.Sem
open Idealize.ShloMosaic.StableHlo

namespace Cert.ReferenceIdeal.Hand

/-- The values of the reference, floats read as extended reals. -/
abbrev Val : EltTy → Type := Elt Ideal

/-- A host operation of the reference. -/
abbrev Op := HloOp τ sig Val

/-- The contents of every buffer of the device. -/
abbrev Mem := Valuation τ sig Val

/-- A table: per buffer number, the elements of the buffer in order. -/
abbrev Tab := List (Nat × List Nat)

/-! ### Positions -/

/-- The position of a multi-index, the first coordinate varying fastest. -/
def pos : {n : Nat} → (d : Fin n → Nat) → ((a : Fin n) → Fin (d a)) → Nat
  | 0, _, _ => 0
  | _ + 1, d, x => (x 0).val + d 0 * pos (fun a => d a.succ) fun a => x a.succ

/-- The multi-index at a position. -/
def unpos : {n : Nat} → (d : Fin n → Nat) → (∀ a, 0 < d a) → Nat → (a : Fin n) → Fin (d a)
  | 0, _, _, _ => fun a => a.elim0
  | _ + 1, d, h, j => Fin.cons ⟨j % d 0, Nat.mod_lt _ (h 0)⟩ (unpos (fun a => d a.succ) (fun a => h a.succ) (j / d 0))

/-- How many positions there are. -/
def count : {n : Nat} → (d : Fin n → Nat) → Nat
  | 0, _ => 1
  | _ + 1, d => d 0 * count fun a => d a.succ

/-- A position is among those there are. -/
theorem pos_lt : {n : Nat} → (d : Fin n → Nat) → (x : (a : Fin n) → Fin (d a)) → pos d x < count d
  | 0, _, _ => Nat.one_pos
  | _ + 1, d, x => by
    have h := pos_lt (fun a => d a.succ) fun a => x a.succ
    have h0 := (x 0).isLt
    simp only [pos, count]
    calc (x 0).val + d 0 * pos (fun a => d a.succ) (fun a => x a.succ)
        < d 0 + d 0 * pos (fun a => d a.succ) (fun a => x a.succ) := by omega
      _ = d 0 * (pos (fun a => d a.succ) (fun a => x a.succ) + 1) := by ring
      _ ≤ d 0 * count (fun a => d a.succ) := Nat.mul_le_mul_left _ h

/-- The multi-index at a multi-index's position is that multi-index. -/
theorem unpos_pos : {n : Nat} → (d : Fin n → Nat) → (h : ∀ a, 0 < d a) → (x : (a : Fin n) → Fin (d a)) →
    unpos d h (pos d x) = x
  | 0, _, _, _ => funext fun a => a.elim0
  | _ + 1, d, h, x => by
    have h0 := (x 0).isLt
    have e1 : pos d x % d 0 = (x 0).val := by
      simp only [pos]; rw [Nat.add_mul_mod_self_left, Nat.mod_eq_of_lt h0]
    have e2 : pos d x / d 0 = pos (fun a => d a.succ) fun a => x a.succ := by
      simp only [pos]; rw [Nat.add_mul_div_left _ _ (h 0), Nat.div_eq_of_lt h0, Nat.zero_add]
    funext a
    refine Fin.cases ?_ (fun b => ?_) a
    · simp only [unpos, Fin.cons_zero]; exact Fin.ext e1
    · simp only [unpos, Fin.cons_succ]; rw [e2, unpos_pos]

/-- The list of a function's values over the multi-indices of a shape, by position. -/
def tab (s : Shape) (f : s.Idx → Nat) : List Nat :=
  if h : ∀ a, 0 < s.size a then (List.range (count s.size)).map fun j => f (unpos s.size h j) else []

/-- The element of such a list at a multi-index's position. -/
theorem tab_getD (s : Shape) (f : s.Idx → Nat) (i : s.Idx) : (tab s f).getD (pos s.size i) 0 = f i := by
  have h : ∀ a, 0 < s.size a := fun a => Fin.pos (i a)
  have hl := pos_lt s.size i
  unfold tab
  rw [dif_pos h, List.getD_eq_getElem?_getD, List.getElem?_map, List.getElem?_range hl]
  simp [unpos_pos]

/-! ### Elements and contents -/

/-- The element a natural number stands for. -/
noncomputable def dec : (e : EltTy) → Nat → Val e
  | .i1, n => BitVec.ofNat 1 n
  | .i4, n => BitVec.ofNat 4 n
  | .i8, n => BitVec.ofNat 8 n
  | .i16, n => BitVec.ofNat 16 n
  | .i32, n => BitVec.ofNat 32 n
  | .i64, n => BitVec.ofNat 64 n
  | .f32, n => (((n : ℝ) / 2 ^ 25 : ℝ) : EReal)
  | .fp8e4m3, _ => (0 : EReal)
  | .fp8e5m2, _ => (0 : EReal)
  | .bf16, _ => (0 : EReal)
  | .f16, _ => (0 : EReal)

/-- The natural number of an integer element. -/
def enc : (e : EltTy) → Val e → Nat
  | .i1, v => v.toNat
  | .i4, v => v.toNat
  | .i8, v => v.toNat
  | .i16, v => v.toNat
  | .i32, v => v.toNat
  | .i64, v => v.toNat
  | .f32, _ => 0
  | .fp8e4m3, _ => 0
  | .fp8e5m2, _ => 0
  | .bf16, _ => 0
  | .f16, _ => 0

/-- The integer element types. -/
def isInt : EltTy → Bool
  | .i1 | .i4 | .i8 | .i16 | .i32 | .i64 => true
  | _ => false

/-- A word of its own unsigned value. -/
theorem ofNat_toNat_self {w : Nat} (v : BitVec w) : BitVec.ofNat w v.toNat = v := by simp

/-- An integer element, written as a number and read back. -/
theorem dec_enc : (e : EltTy) → isInt e = true → (v : Val e) → dec e (enc e v) = v
  | .i1, _, v => ofNat_toNat_self v
  | .i4, _, v => ofNat_toNat_self v
  | .i8, _, v => ofNat_toNat_self v
  | .i16, _, v => ofNat_toNat_self v
  | .i32, _, v => ofNat_toNat_self v
  | .i64, _, v => ofNat_toNat_self v

/-- The contents of a buffer that a list stands for. -/
noncomputable def decC (T : BufTy) (l : List Nat) : T.Contents Val := fun i => dec T.elt (l.getD (pos T.shape.size i) 0)

/-- Integer contents written down and read back. -/
theorem decC_tab_enc (T : BufTy) (h : isInt T.elt = true) (v : T.Contents Val) :
    decC T (tab T.shape fun i => enc T.elt (v i)) = v := by
  funext i; simp only [decC]; rw [tab_getD, dec_enc _ h]

/-! ### Steps on tables

A step takes a table and what follows, and is `true` when the step applies and what follows is `true` of the table
after it. Numbers are brought to literals before they are stored, so a long line of steps is worked out one step at a
time. -/

/-- What follows, at a number. -/
def forceN (n : Nat) (k : Nat → Bool) : Bool := Nat.casesOn n (k 0) fun m => k (m + 1)

/-- Bringing a number to a literal changes nothing. -/
theorem forceN_eq (n : Nat) (k : Nat → Bool) : forceN n k = k n := by cases n <;> rfl

/-- What follows, at a list of numbers. -/
def forceL : List Nat → (List Nat → Bool) → Bool
  | [], k => k []
  | a :: l, k => forceN a fun a' => forceL l fun l' => k (a' :: l')

/-- Nor does it for a list. -/
theorem forceL_eq (l : List Nat) (k : List Nat → Bool) : forceL l k = k l := by
  induction l generalizing k with
  | nil => rfl
  | cons a l ih => simp only [forceL, forceN_eq, ih]

/-- What follows, at the list a table holds for a buffer number; `false` if it holds none. -/
def find : Tab → Nat → (List Nat → Bool) → Bool
  | [], _, _ => false
  | (k', l) :: t, k, c => bif Nat.beq k' k then c l else find t k c

/-- What follows, at the list a table holds for a buffer. -/
def get (t : Tab) (x : Ref sig .tc) (c : List Nat → Bool) : Bool := forceN x.idx.val fun k => find t k c

/-- A table with one more buffer, which is not the argument's. -/
def put (y : Ref sig .tc) (l : List Nat) (t : Tab) (k : Tab → Bool) : Bool :=
  forceN y.idx.val fun y' => bif Nat.beq y' 0 then false else forceL l fun l' => k ((y', l') :: t)

/-- What `find` reads first. -/
def look : Tab → Nat → Option (List Nat)
  | [], _ => none
  | (k', l) :: t, k => bif Nat.beq k' k then some l else look t k

/-- What follows a successful search follows at what the table holds. -/
theorem find_eq (t : Tab) (k : Nat) (c : List Nat → Bool) (h : find t k c = true) :
    ∃ l, look t k = some l ∧ c l = true := by
  induction t with
  | nil => exact absurd h (by simp [find])
  | cons p t ih =>
    obtain ⟨k', l⟩ := p
    simp only [find, look] at h ⊢
    cases hb : Nat.beq k' k <;> simp only [hb, cond_true, cond_false] at h ⊢
    · exact ih h
    · exact ⟨l, rfl, h⟩

/-- A TensorCore reference of the reference program is its buffer number. -/
theorem ref_ext (x y : Ref sig .tc) (h : x.idx.val = y.idx.val) : x = y := by
  rcases x with ⟨sx, ix, nx⟩
  rcases y with ⟨sy, iy, ny⟩
  obtain rfl : sx = .hbm := by
    rcases sx with (_ | _) | _ | _ | _ <;> first | rfl | exact Fin.elim0 ix
  obtain rfl : sy = .hbm := by
    rcases sy with (_ | _) | _ | _ | _ <;> first | rfl | exact Fin.elim0 iy
  obtain rfl : ix = iy := Fin.ext h
  rfl

/-- A table describes the device's memory, and the argument is as it was at `V₀`. -/
structure Agrees (V₀ V : Mem) (t : Tab) : Prop where
  arg : V (Proc.devRef .tc main_arg0) = V₀ (Proc.devRef .tc main_arg0)
  val : ∀ (x : Ref sig .tc) (l : List Nat), look t x.idx.val = some l → V (Proc.devRef .tc x) = decC x.ty l

/-- What follows a read follows at a list that stands for the buffer's contents. -/
theorem get_eq {V₀ V : Mem} {t : Tab} (A : Agrees V₀ V t) (x : Ref sig .tc) (c : List Nat → Bool) (h : get t x c = true) :
    ∃ l, V (Proc.devRef .tc x) = decC x.ty l ∧ c l = true := by
  rw [get, forceN_eq] at h
  obtain ⟨l, hl, hc⟩ := find_eq _ _ _ h
  exact ⟨l, A.val x l hl, hc⟩

/-- After a buffer is written, the table with its list describes the memory. -/
theorem put_eq {V₀ V V' : Mem} {t : Tab} (A : Agrees V₀ V t) (y : Ref sig .tc) (l : List Nat) (k : Tab → Bool)
    (hy : V' (Proc.devRef .tc y) = decC y.ty l)
    (hne : ∀ x : Ref sig .tc, x ≠ y → V' (Proc.devRef .tc x) = V (Proc.devRef .tc x)) (h : put y l t k = true) :
    ∃ t', Agrees V₀ V' t' ∧ k t' = true := by
  rw [put, forceN_eq] at h
  cases hb : Nat.beq y.idx.val 0 <;> simp only [hb, cond_true, cond_false] at h
  · rw [forceL_eq] at h
    refine ⟨_, ⟨?_, ?_⟩, h⟩
    · rw [hne _ (fun e => ?_), A.arg]
      rw [← e] at hb; exact absurd hb (by decide)
    · intro x l' hl
      simp only [look] at hl
      cases hx : Nat.beq y.idx.val x.idx.val <;> simp only [hx, cond_true, cond_false] at hl
      · rw [hne x (fun e => ?_), A.val x l' hl]
        rw [e, Nat.beq_refl] at hx; exact absurd hx (by decide)
      · have e : y = x := ref_ext _ _ (Nat.eq_of_beq_eq_true hx)
        subst e
        rw [hy, Option.some.inj hl]
  · exact absurd h (by decide)

/-- An operation is followed on tables by the step `g`. -/
structure Sim (op : Op) (g : Tab → (Tab → Bool) → Bool) : Prop where
  bufs : op.bufs ⊆ tcRefs τ sig
  fresh : op.fresh = ∅
  step : ∀ (V₀ V : Mem) (t : Tab) (k : Tab → Bool), Agrees V₀ V t → g t k = true →
    ∃ t', Agrees V₀ (op.result V) t' ∧ k t' = true

end Cert.ReferenceIdeal.Hand
-- ==== Proof.Consts.lean ====
/-
  The values of the reference's float patterns at the ideal instance.
-/
module

public import proofs.«01_k».proof.Proof.Table

@[expose] public section

open Idealize.ShloMosaic

namespace Cert.ReferenceIdeal.Hand

/-- The word of zero. -/
theorem ofBits_zero : Ideal.ofBits .f32 0x00000000#32 = dec .f32 0 := by
  simp [Ideal.ofBits, Ideal.ieee, dec, -EReal.coe_mul]

/-- The word of one. -/
theorem ofBits_one : Ideal.ofBits .f32 0x3F800000#32 = dec .f32 33554432 := by
  simp [Ideal.ofBits, Ideal.ieee, dec, -EReal.coe_mul, -EReal.coe_eq_coe_iff]
  norm_num

/-- The word of one half. -/
theorem ofBits_half : Ideal.ofBits .f32 0x3F000000#32 = dec .f32 16777216 := by
  simp [Ideal.ofBits, Ideal.ieee, dec, -EReal.coe_mul]
  norm_num

/-- The word nearest three tenths. -/
theorem ofBits_p3 : Ideal.ofBits .f32 0x3E99999A#32 = dec .f32 10066330 := by
  simp [Ideal.ofBits, Ideal.ieee, dec, -EReal.coe_mul]
  norm_num

/-- The exponent of the reference's power. -/
theorem ofBits_exponent : Ideal.ofBits .f32 0xBF7A3E5E#32 = ((-(8199983 / 8388608) : ℝ) : EReal) := by
  simp [Ideal.ofBits, Ideal.ieee, -EReal.coe_mul, -EReal.coe_neg]
  norm_num

/-- The factor of the reference's power. -/
theorem ofBits_xmin : Ideal.ofBits .f32 0x3F87464A#32 = ((4432677 / 4194304 : ℝ) : EReal) := by
  simp [Ideal.ofBits, Ideal.ieee, -EReal.coe_mul]
  norm_num

/-- A pattern between those of one and two, as a fraction. -/
theorem ofBits_unit (n : Nat) (h1 : 1065353216 ≤ n) (h2 : n < 1073741824) :
    Ideal.ofBits .f32 (BitVec.ofNat 32 n) = dec .f32 ((n - 1056964608) * 4) := by
  obtain ⟨r, rfl⟩ : ∃ r, n = 1065353216 + r := ⟨n - 1065353216, by omega⟩
  have hr : r < 8388608 := by omega
  have e1 : (BitVec.extractLsb' 31 1 (BitVec.ofNat 32 (1065353216 + r)) == 1#1) = false := by
    rw [beq_eq_false_iff_ne]
    intro h
    have := congrArg BitVec.toNat h
    simp [BitVec.extractLsb'_toNat, Nat.shiftRight_eq_div_pow] at this
    omega
  have e2 : (BitVec.extractLsb' 23 8 (BitVec.ofNat 32 (1065353216 + r))).toNat = 127 := by
    simp [BitVec.extractLsb'_toNat, Nat.shiftRight_eq_div_pow]
    omega
  have e3 : (BitVec.extractLsb' 0 23 (BitVec.ofNat 32 (1065353216 + r))).toNat = r := by
    simp [BitVec.extractLsb'_toNat]
    omega
  have e4 : 1065353216 + r - 1056964608 = 8388608 + r := by omega
  have e5 : ((127 : Nat) : Int) - (2 ^ (8 - 1) - 1) - ((23 : Nat) : Int) = -23 := by decide
  simp only [Ideal.ofBits, Ideal.ieee, e1, e2, e3, dec]
  rw [if_neg (by decide), if_neg (by decide), e4, e5]
  refine congrArg (fun x : ℝ => (x : EReal)) ?_
  push_cast
  have e6 : (2 : ℝ) ^ (-23 : Int) = 1 / 8388608 := by norm_num
  rw [e6]
  norm_num
  ring

end Cert.ReferenceIdeal.Hand
-- ==== Proof.Steps.lean ====
/-
  One step on tables for each kind of operation in the small part of the reference, and lines of steps.

  An operation on integers is followed by applying its own function to the contents the table holds. The few float
  operations are followed on the numerators of their values.
-/
module

public import proofs.«01_k».proof.Proof.Consts

@[expose] public section

open Idealize.ShloMosaic Idealize.ShloMosaic.TcCoe Idealize.SL.Sem
open Idealize.ShloMosaic.StableHlo

namespace Cert.ReferenceIdeal.Hand

/-! ### Integer operations -/

section Ints

variable (x a b c y : Ref sig .tc)

/-- A constant is followed by its list. -/
theorem sim_nullary (v : y.ty.Contents Val) (hy) (iy : isInt y.ty.elt = true) :
    Sim (StableHlo.nullary y v hy) (put y (tab y.ty.shape fun i => enc y.ty.elt (v i))) where
  bufs := nullary_bufs_sub y v hy
  fresh := rfl
  step V₀ V t k A h := by
    refine put_eq A y _ k ?_ (fun x hx => nullary_result_ne y v hy V hx) h
    rw [decC_tab_enc _ iy]; exact nullary_result y v hy V

/-- An operation on one operand is followed by its value on the list. -/
theorem sim_unary (f : x.ty.Contents Val → y.ty.Contents Val) (hx hy) (iy : isInt y.ty.elt = true) :
    Sim (StableHlo.unary x y f hx hy)
      (fun t k => get t x fun l => put y (tab y.ty.shape fun i => enc y.ty.elt (f (decC x.ty l) i)) t k) where
  bufs := unary_bufs_sub x y f hx hy
  fresh := rfl
  step V₀ V t k A h := by
    obtain ⟨l, e, h⟩ := get_eq A x _ h
    refine put_eq A y _ k ?_ (fun r hr => unary_result_ne x y f hx hy V hr) h
    rw [decC_tab_enc _ iy, ← e]; exact unary_result x y f hx hy V

/-- An operation on two operands likewise. -/
theorem sim_binary (f : a.ty.Contents Val → b.ty.Contents Val → y.ty.Contents Val) (ha hb hy)
    (iy : isInt y.ty.elt = true) :
    Sim (StableHlo.binary a b y f ha hb hy)
      (fun t k => get t a fun l => get t b fun l' =>
        put y (tab y.ty.shape fun i => enc y.ty.elt (f (decC a.ty l) (decC b.ty l') i)) t k) where
  bufs := binary_bufs_sub a b y f ha hb hy
  fresh := rfl
  step V₀ V t k A h := by
    obtain ⟨l, e, h⟩ := get_eq A a _ h
    obtain ⟨l', e', h⟩ := get_eq A b _ h
    refine put_eq A y _ k ?_ (fun r hr => binary_result_ne a b y f ha hb hy V hr) h
    rw [decC_tab_enc _ iy, ← e, ← e']; exact binary_result a b y f ha hb hy V

/-- An operation on three operands likewise. -/
theorem sim_ternary (f : c.ty.Contents Val → a.ty.Contents Val → b.ty.Contents Val → y.ty.Contents Val) (hc ha hb hy)
    (iy : isInt y.ty.elt = true) :
    Sim (StableHlo.ternary c a b y f hc ha hb hy)
      (fun t k => get t c fun lc => get t a fun l => get t b fun l' =>
        put y (tab y.ty.shape fun i => enc y.ty.elt (f (decC c.ty lc) (decC a.ty l) (decC b.ty l') i)) t k) where
  bufs := ternary_bufs_sub a b c y f hc ha hb hy
  fresh := rfl
  step V₀ V t k A h := by
    obtain ⟨lc, ec, h⟩ := get_eq A c _ h
    obtain ⟨l, e, h⟩ := get_eq A a _ h
    obtain ⟨l', e', h⟩ := get_eq A b _ h
    refine put_eq A y _ k ?_ (fun r hr => ternary_result_ne a b c y f hc ha hb hy V hr) h
    rw [decC_tab_enc _ iy, ← e, ← e', ← ec]; exact ternary_result c a b y f hc ha hb hy V

/-- A reshape likewise. -/
theorem sim_reshape (he hn hx hy) (iy : isInt y.ty.elt = true) :
    Sim (StableHlo.reshape x y he hn hx hy)
      (fun t k => get t x fun l => put y (tab y.ty.shape fun i =>
        enc y.ty.elt ((fun i => he ▸ shapeCast y.ty.shape (decC x.ty l) hn i : y.ty.Contents Val) i)) t k) where
  bufs := reshape_bufs_sub x y he hn hx hy
  fresh := rfl
  step V₀ V t k A h := by
    obtain ⟨l, e, h⟩ := get_eq A x _ h
    refine put_eq A y _ k ?_ (fun r hr => reshape_result_ne x y he hn hx hy V hr) h
    rw [decC_tab_enc _ iy, ← e]; exact reshape_result x y he hn hx hy V

end Ints

/-! The same for typed references, whose types are written in the program. -/

section Typed

variable {Tx Ta Tb Tc Ty : BufTy} (x : TRef sig Tx) (a : TRef sig Ta) (b : TRef sig Tb) (c : TRef sig Tc) (y : TRef sig Ty)

/-- An integer element type. -/
class IsInt (e : EltTy) : Prop where
  eq : isInt e = true

instance : IsInt .i1 := ⟨rfl⟩
instance : IsInt .i32 := ⟨rfl⟩
instance : IsInt .i64 := ⟨rfl⟩

/-- An operation and the step that follows it, found by the shape of the operation. -/
class Step (op : Op) (g : outParam (Tab → (Tab → Bool) → Bool)) : Prop where
  sim : Sim op g

/-- An integer constant. -/
instance step_nullary {S : Shape} {e : EltTy} [iy : IsInt e] (y : TRef sig ⟨S, e⟩) (v : S.Idx → Val e) :
    Step (TRef.nullary y v) (put y.ref (tab S fun i => enc e (v i))) := by
  refine ⟨?_⟩
  have (Ty : BufTy) (y : TRef sig Ty) (v : Ty.Contents Val) (iy : isInt Ty.elt = true) :
      Sim (TRef.nullary y v) (put y.ref (tab Ty.shape fun i => enc Ty.elt (v i))) := by
    obtain ⟨y, rfl, _, _⟩ := y
    exact sim_nullary y v _ iy
  exact this _ y v iy.eq

/-- An operation from integers to integers. -/
instance step_unary [IsInt Tx.elt] [iy : IsInt Ty.elt] (f : Tx.Contents Val → Ty.Contents Val) :
    Step (TRef.unary x y f)
      (fun t k => get t x.ref fun l => put y.ref (tab Ty.shape fun i => enc Ty.elt (f (decC Tx l) i)) t k) := by
  obtain ⟨x, rfl, _, _⟩ := x
  obtain ⟨y, rfl, _, _⟩ := y
  exact ⟨sim_unary x y f _ _ iy.eq⟩

/-- An operation on two integer operands. -/
instance step_binary [IsInt Ta.elt] [IsInt Tb.elt] [iy : IsInt Ty.elt]
    (f : Ta.Contents Val → Tb.Contents Val → Ty.Contents Val) :
    Step (TRef.binary a b y f)
      (fun t k => get t a.ref fun l => get t b.ref fun l' =>
        put y.ref (tab Ty.shape fun i => enc Ty.elt (f (decC Ta l) (decC Tb l') i)) t k) := by
  obtain ⟨a, rfl, _, _⟩ := a
  obtain ⟨b, rfl, _, _⟩ := b
  obtain ⟨y, rfl, _, _⟩ := y
  exact ⟨sim_binary a b y f _ _ _ iy.eq⟩

/-- An operation on three integer operands. -/
instance step_ternary [IsInt Tc.elt] [IsInt Ta.elt] [IsInt Tb.elt] [iy : IsInt Ty.elt]
    (f : Tc.Contents Val → Ta.Contents Val → Tb.Contents Val → Ty.Contents Val) :
    Step (TRef.ternary c a b y f)
      (fun t k => get t c.ref fun lc => get t a.ref fun l => get t b.ref fun l' =>
        put y.ref (tab Ty.shape fun i => enc Ty.elt (f (decC Tc lc) (decC Ta l) (decC Tb l') i)) t k) := by
  obtain ⟨c, rfl, _, _⟩ := c
  obtain ⟨a, rfl, _, _⟩ := a
  obtain ⟨b, rfl, _, _⟩ := b
  obtain ⟨y, rfl, _, _⟩ := y
  exact ⟨sim_ternary a b c y f _ _ _ _ iy.eq⟩

/-- A reshape of integers. -/
instance step_reshape [iy : IsInt Ty.elt] (he : Tx.elt = Ty.elt) (hn : Tx.shape.ShapeCasts Ty.shape) :
    Step (TRef.reshape x y he hn)
      (fun t k => get t x.ref fun l => put y.ref (tab Ty.shape fun i =>
        enc Ty.elt ((fun i => he ▸ shapeCast Ty.shape (decC Tx l) hn i : Ty.Contents Val) i)) t k) := by
  obtain ⟨x, rfl, _, _⟩ := x
  obtain ⟨y, rfl, _, _⟩ := y
  exact ⟨sim_reshape x y he hn _ _ iy.eq⟩

end Typed

/-! ### Float operations

Each is followed on numerators, under a check on the numerators it reads. -/

section Checked

variable {Tx Ta Tb Ty : BufTy}

/-- A constant is followed by any list that stands for it. -/
theorem sim_nullary_of (y : TRef sig Ty) (v : Ty.Contents Val) (l : List Nat) (h : v = decC Ty l) :
    Sim (TRef.nullary y v) (put y.ref l) := by
  obtain ⟨y, rfl, _, _⟩ := y
  refine ⟨nullary_bufs_sub y _ _, rfl, fun V₀ V t k A hk => ?_⟩
  exact put_eq A y _ k ((nullary_result y _ _ V).trans h) (fun r hr => nullary_result_ne y _ _ V hr) hk

/-- An operation on one operand is followed by a function of lists that agrees with it under a check. -/
theorem sim_unary_of (x : TRef sig Tx) (y : TRef sig Ty) (f : Tx.Contents Val → Ty.Contents Val)
    (ok : List Nat → Bool) (o : List Nat → List Nat) (h : ∀ l, ok l = true → f (decC Tx l) = decC Ty (o l)) :
    Sim (TRef.unary x y f) (fun t k => get t x.ref fun l => bif ok l then put y.ref (o l) t k else false) := by
  obtain ⟨x, rfl, _, _⟩ := x
  obtain ⟨y, rfl, _, _⟩ := y
  refine ⟨unary_bufs_sub x y _ _ _, rfl, fun V₀ V t k A hk => ?_⟩
  obtain ⟨l, e, hk⟩ := get_eq A x _ hk
  cases hb : ok l <;> simp only [hb, cond_true, cond_false, Bool.false_eq_true] at hk
  refine put_eq A y _ k ((unary_result x y _ _ _ V).trans ?_) (fun r hr => unary_result_ne x y _ _ _ V hr) hk
  rw [e]; exact h l hb

/-- An operation on two operands likewise. -/
theorem sim_binary_of (a : TRef sig Ta) (b : TRef sig Tb) (y : TRef sig Ty)
    (f : Ta.Contents Val → Tb.Contents Val → Ty.Contents Val) (ok : List Nat → List Nat → Bool)
    (o : List Nat → List Nat → List Nat)
    (h : ∀ l l', ok l l' = true → f (decC Ta l) (decC Tb l') = decC Ty (o l l')) :
    Sim (TRef.binary a b y f) (fun t k => get t a.ref fun l => get t b.ref fun l' =>
      bif ok l l' then put y.ref (o l l') t k else false) := by
  obtain ⟨a, rfl, _, _⟩ := a
  obtain ⟨b, rfl, _, _⟩ := b
  obtain ⟨y, rfl, _, _⟩ := y
  refine ⟨binary_bufs_sub a b y _ _ _ _, rfl, fun V₀ V t k A hk => ?_⟩
  obtain ⟨l, e, hk⟩ := get_eq A a _ hk
  obtain ⟨l', e', hk⟩ := get_eq A b _ hk
  cases hb : ok l l' <;> simp only [hb, cond_true, cond_false, Bool.false_eq_true] at hk
  refine put_eq A y _ k ((binary_result a b y _ _ _ _ V).trans ?_) (fun r hr => binary_result_ne a b y _ _ _ _ V hr) hk
  rw [e, e']; exact h l l' hb

/-- A list is all zeros. -/
def zeros (l : List Nat) : Bool := l.all fun a => Nat.beq a 0

/-- An element of a list of zeros is zero. -/
theorem zeros_getD (l : List Nat) (h : zeros l = true) (j : Nat) : l.getD j 0 = 0 := by
  induction l generalizing j with
  | nil => rfl
  | cons a l ih =>
    simp only [zeros, List.all_cons, Bool.and_eq_true] at h
    cases j with
    | zero => exact Nat.eq_of_beq_eq_true h.1
    | succ j => exact ih h.2 j

/-- A condition holds at every multi-index of a shape. -/
def every (S : Shape) (c : S.Idx → Bool) : Bool := zeros (tab S fun i => bif c i then 0 else 1)

/-- A check at every place holds at each. -/
theorem every_eq (S : Shape) (c : S.Idx → Bool) (h : every S c = true) (i : S.Idx) : c i = true := by
  have := zeros_getD _ h (pos S.size i)
  rw [tab_getD] at this
  cases hc : c i
  · simp [hc] at this
  · rfl

end Checked

section Pointwise

variable {S : Shape} {ea eb ey : EltTy}

/-- The element of a list at a multi-index. -/
def at' (S : Shape) (l : List Nat) (i : S.Idx) : Nat := l.getD (pos S.size i) 0

/-- The step that writes `o` of each element, where `c` holds of each. -/
def goMap (S : Shape) (x y : Ref sig .tc) (c : Nat → Bool) (o : Nat → Nat) (t : Tab) (k : Tab → Bool) : Bool :=
  get t x fun l => bif every S (fun i => c (at' S l i)) then put y (tab S fun i => o (at' S l i)) t k else false

/-- The step that writes `o` of each two elements, where `c` holds of each two. -/
def goMap₂ (S : Shape) (a b y : Ref sig .tc) (c : Nat → Nat → Bool) (o : Nat → Nat → Nat) (t : Tab) (k : Tab → Bool) : Bool :=
  get t a fun l => get t b fun l' =>
    bif every S (fun i => c (at' S l i) (at' S l' i)) then put y (tab S fun i => o (at' S l i) (at' S l' i)) t k else false

/-- The step that moves elements. -/
def goMove (S S' : Shape) (x y : Ref sig .tc) (π : S'.Idx → S.Idx) (t : Tab) (k : Tab → Bool) : Bool :=
  get t x fun l => bif true then put y (tab S' fun i => at' S l (π i)) t k else false

/-- Contents written down, read at a multi-index. -/
theorem decC_tab (S : Shape) (e : EltTy) (f : S.Idx → Nat) (i : S.Idx) : decC ⟨S, e⟩ (tab S f) i = dec e (f i) :=
  congrArg (dec e) (tab_getD S f i)

/-- An operation on one tensor, element by element, followed by `o` where `c` holds. -/
theorem sim_map (x : TRef sig ⟨S, ea⟩) (y : TRef sig ⟨S, ey⟩) (f : (S.Idx → Val ea) → S.Idx → Val ey) (F : Val ea → Val ey)
    (c : Nat → Bool) (o : Nat → Nat) (hf : ∀ u i, f u i = F (u i)) (h : ∀ n, c n = true → F (dec ea n) = dec ey (o n)) :
    Sim (TRef.unary x y f) (goMap S x.ref y.ref c o) :=
  sim_unary_of x y f (fun l => every S fun i => c (at' S l i)) (fun l => tab S fun i => o (at' S l i)) fun l hl =>
    funext fun i => (hf _ i).trans ((h _ (every_eq S _ hl i)).trans (decC_tab S ey (fun i => o (at' S l i)) i).symm)

/-- An operation on two tensors, element by element, followed by `o` where `c` holds. -/
theorem sim_map₂ (a : TRef sig ⟨S, ea⟩) (b : TRef sig ⟨S, eb⟩) (y : TRef sig ⟨S, ey⟩)
    (f : (S.Idx → Val ea) → (S.Idx → Val eb) → S.Idx → Val ey) (F : Val ea → Val eb → Val ey)
    (c : Nat → Nat → Bool) (o : Nat → Nat → Nat) (hf : ∀ u v i, f u v i = F (u i) (v i))
    (h : ∀ n m, c n m = true → F (dec ea n) (dec eb m) = dec ey (o n m)) :
    Sim (TRef.binary a b y f) (goMap₂ S a.ref b.ref y.ref c o) :=
  sim_binary_of a b y f (fun l l' => every S fun i => c (at' S l i) (at' S l' i))
    (fun l l' => tab S fun i => o (at' S l i) (at' S l' i)) fun l l' hl =>
    funext fun i => (hf _ _ i).trans ((h _ _ (every_eq S _ hl i)).trans (decC_tab S ey (fun i => o (at' S l i) (at' S l' i)) i).symm)

/-- A constant of a known value. -/
theorem sim_const (y : TRef sig ⟨S, .f32⟩) (b : BitVec 32) (n : Nat) (h : Ideal.ofBits .f32 b = dec .f32 n) :
    Sim (TRef.nullary y (constant (F := Ideal) S .f32 b)) (put y.ref (tab S fun _ => n)) :=
  sim_nullary_of y _ _ (funext fun i => h.trans (decC_tab S .f32 (fun _ => n) i).symm)

/-- An operation that moves elements: each result element is the operand's at `π`. -/
theorem sim_move {S' : Shape} (x : TRef sig ⟨S, ea⟩) (y : TRef sig ⟨S', ea⟩) (f : (S.Idx → Val ea) → S'.Idx → Val ea)
    (π : S'.Idx → S.Idx) (hf : ∀ u i, f u i = u (π i)) :
    Sim (TRef.unary x y f) (goMove S S' x.ref y.ref π) :=
  sim_unary_of x y f (fun _ => true) (fun l => tab S' fun i => at' S l (π i)) fun l _ =>
    funext fun i => (hf _ i).trans (decC_tab S' ea (fun i => at' S l (π i)) i).symm

end Pointwise

/-! The float operations of the reference. -/

section Reals

variable {S S' : Shape}

/-- A difference of fractions. -/
theorem cast_sub (n m : Nat) (h : m ≤ n) : (dec .f32 n : EReal) - (dec .f32 m : EReal) = dec .f32 (n - m) := by
  simp only [dec]
  rw [← EReal.coe_sub, Nat.cast_sub h, sub_div]

/-- A sum of fractions. -/
theorem cast_add (n m : Nat) : (dec .f32 n : EReal) + (dec .f32 m : EReal) = dec .f32 (n + m) := by
  simp only [dec]
  rw [← EReal.coe_add, Nat.cast_add, add_div]

/-- A product of fractions, where the numerators divide. -/
theorem cast_mul (n m : Nat) (h : n * m % 33554432 = 0) :
    (dec .f32 n : EReal) * (dec .f32 m : EReal) = dec .f32 (n * m / 33554432) := by
  obtain ⟨q, hq⟩ := Nat.dvd_of_mod_eq_zero h
  rw [hq, Nat.mul_div_cancel_left _ (by norm_num)]
  have hq' : (n : ℝ) * m = 33554432 * q := by exact_mod_cast hq
  simp only [dec]
  rw [← EReal.coe_mul]
  refine congrArg (fun x : ℝ => (x : EReal)) ?_
  rw [div_mul_div_comm, hq']
  norm_num
  ring

/-- Fractions compare as their numerators. -/
theorem cast_le (n m : Nat) : (dec .f32 n : EReal) ≤ (dec .f32 m : EReal) ↔ n ≤ m := by
  simp only [dec]
  rw [EReal.coe_le_coe_iff, div_le_div_iff_of_pos_right (by norm_num), Nat.cast_le]

/-- The larger of two fractions. -/
theorem cast_max (n m : Nat) : max (dec .f32 n : EReal) (dec .f32 m : EReal) = dec .f32 (max n m) := by
  rcases le_total n m with h | h
  · rw [max_eq_right h, max_eq_right ((cast_le n m).2 h)]
  · rw [max_eq_left h, max_eq_left ((cast_le m n).2 h)]

/-- A comparison of fractions. -/
theorem cast_cmp (n m : Nat) : Ideal.cmp .olt (dec .f32 n) (dec .f32 m) = dec .i1 (bif Nat.blt n m then 1 else 0) := by
  have h : ((dec .f32 n : EReal) < dec .f32 m) ↔ n < m := by rw [← not_le, cast_le, not_le]
  by_cases hl : n < m
  · have hb : Nat.blt n m = true := Nat.ble_eq_true_of_le hl
    simp only [Ideal.cmp, hb, cond_true, decide_eq_true (h.2 hl)]; rfl
  · have hb : Nat.blt n m = false := by
      cases hc : Nat.blt n m
      · rfl
      · exact absurd (Nat.le_of_ble_eq_true hc) hl
    simp only [Ideal.cmp, hb, cond_false, decide_eq_false (fun e => hl (h.1 e))]; rfl

variable (x a b y : TRef sig ⟨S, .f32⟩)

/-- The constant zero. -/
instance step_zero : Step (TRef.nullary y (constant (F := Ideal) S .f32 0x00000000#32)) (put y.ref (tab S fun _ => 0)) :=
  ⟨sim_const y _ 0 ofBits_zero⟩
/-- The constant one. -/
instance step_one :
    Step (TRef.nullary y (constant (F := Ideal) S .f32 0x3F800000#32)) (put y.ref (tab S fun _ => 33554432)) :=
  ⟨sim_const y _ 33554432 ofBits_one⟩
/-- The constant one half. -/
instance step_half :
    Step (TRef.nullary y (constant (F := Ideal) S .f32 0x3F000000#32)) (put y.ref (tab S fun _ => 16777216)) :=
  ⟨sim_const y _ 16777216 ofBits_half⟩
/-- The constant three tenths. -/
instance step_p3 :
    Step (TRef.nullary y (constant (F := Ideal) S .f32 0x3E99999A#32)) (put y.ref (tab S fun _ => 10066330)) :=
  ⟨sim_const y _ 10066330 ofBits_p3⟩

/-- A copy. -/
instance step_id : Step (TRef.unary x y id) (goMove S S x.ref y.ref id) := ⟨sim_move x y id id fun _ _ => rfl⟩

/-- Where a broadcast reads its operand. -/
def src (S S' : Shape) (d : Fin S.rank → Fin S'.rank) (h : S.BroadcastsInDim S' d) (j : S'.Idx) : S.Idx :=
  broadcastInDim S' d h id j

/-- A reshape is an operation on one operand. -/
theorem reshape_eq {Tx Ty : BufTy} (x : TRef sig Tx) (y : TRef sig Ty) (he : Tx.elt = Ty.elt)
    (hn : Tx.shape.ShapeCasts Ty.shape) :
    (TRef.reshape x y he hn : Op) = TRef.unary x y fun v => fun i => he ▸ shapeCast Ty.shape v hn i := by
  obtain ⟨x, rfl, _, _⟩ := x
  obtain ⟨y, rfl, _, _⟩ := y
  rfl

/-- A reshape of floats. -/
instance step_reshape_f (y : TRef sig ⟨S', .f32⟩) (h : S.ShapeCasts S') :
    Step (TRef.reshape x y (rfl : (.f32 : EltTy) = .f32) h) (goMove S S' x.ref y.ref (shapeCast S' id h)) :=
  ⟨(reshape_eq x y rfl h).symm ▸ sim_move x y (fun v => shapeCast S' v h) (shapeCast S' id h) fun _ _ => rfl⟩

/-- A broadcast of floats. -/
instance step_bcast (y : TRef sig ⟨S', .f32⟩) (d : Fin S.rank → Fin S'.rank) (h : S.BroadcastsInDim S' d) :
    Step (TRef.unary x y (broadcastInDim S' d h)) (goMove S S' x.ref y.ref (src S S' d h)) :=
  ⟨sim_move x y (broadcastInDim S' d h) _ fun _ _ => rfl⟩

/-- A pattern of a float from one up to two. -/
def isUnit (n : Nat) : Bool := Nat.ble 1065353216 n && Nat.blt n 1073741824

/-- Integers in the range of the words between one and two, read as floats. -/
instance step_bitcast (x : TRef sig ⟨S, .i32⟩) :
    Step (TRef.unary x y (bitcastToFloat (F := Ideal) .f32 : (S.Idx → BitVec 32) → S.Idx → EReal))
      (goMap S x.ref y.ref isUnit fun n => (n - 1056964608) * 4) :=
  ⟨sim_map x y _ (Ideal.ofBits .f32) _ _ (fun _ _ => rfl)
    fun n hn => by
      rw [isUnit, Bool.and_eq_true] at hn
      exact ofBits_unit n (Nat.le_of_ble_eq_true hn.1) (Nat.le_of_ble_eq_true hn.2)⟩

/-- A difference, where it is not negative. -/
instance step_subf : Step (TRef.binary a b y (subf (F := Ideal) (φ := .f32)))
    (goMap₂ S a.ref b.ref y.ref (fun n m => Nat.ble m n) fun n m => n - m) :=
  ⟨sim_map₂ a b y _ (fun u v : EReal => u - v) _ _
    (fun _ _ _ => rfl) fun n m h => cast_sub n m (Nat.le_of_ble_eq_true h)⟩

/-- A sum. -/
instance step_addf : Step (TRef.binary a b y (addf (F := Ideal) (φ := .f32)))
    (goMap₂ S a.ref b.ref y.ref (fun _ _ => true) fun n m => n + m) :=
  ⟨sim_map₂ a b y _ (fun u v : EReal => u + v) _ _
    (fun _ _ _ => rfl) fun n m _ => cast_add n m⟩

/-- A product, where the numerators divide. -/
instance step_mulf : Step (TRef.binary a b y (mulf (F := Ideal) (φ := .f32)))
    (goMap₂ S a.ref b.ref y.ref (fun n m => Nat.beq (n * m % 33554432) 0) fun n m => n * m / 33554432) :=
  ⟨sim_map₂ a b y _ (fun u v : EReal => u * v) _ _
    (fun _ _ _ => rfl) fun n m h => cast_mul n m (Nat.eq_of_beq_eq_true h)⟩

/-- The larger of two. -/
instance step_maximumf : Step (TRef.binary a b y (maximumf (F := Ideal) (φ := .f32)))
    (goMap₂ S a.ref b.ref y.ref (fun _ _ => true) fun n m => max n m) :=
  ⟨sim_map₂ a b y _ (fun u v : EReal => max u v) _ _
    (fun _ _ _ => rfl) fun n m _ => cast_max n m⟩

/-- A comparison. -/
instance step_cmpf (y : TRef sig ⟨S, .i1⟩) : Step (TRef.binary a b y (cmpf (F := Ideal) (φ := .f32) .olt))
    (goMap₂ S a.ref b.ref y.ref (fun _ _ => true) fun n m => bif Nat.blt n m then 1 else 0) :=
  ⟨sim_map₂ a b y _ (fun u v : EReal => Ideal.cmp .olt u v) _ _
    (fun _ _ _ => rfl) fun n m _ => cast_cmp n m⟩

end Reals

/-! ### Lines of steps -/

/-- A host program of the reference. -/
abbrev Line := Prog (TpuEff nD τ sig Val (Pipeline.Sig Λ₀ (Fin 0) fun p => (pcfgs (F := Ideal) p).Adm) .tc) PUnit

/-- A host program runs as operations on the device's buffers; `g` follows them on tables up to the operations `rest`. -/
def Follows (p : Line) (g : Tab → (Tab → Bool) → Bool) (rest : List Op) : Prop :=
  ∃ ops : List Op, IsSeq p ops ∧ (∀ op ∈ ops, op.bufs ⊆ tcRefs τ sig ∧ op.fresh = ∅) ∧
    ∀ (V₀ V : Mem) (t : Tab) (k : Tab → Bool), Agrees V₀ V t → g t k = true →
      ∃ V' t', Agrees V₀ V' t' ∧ k t' = true ∧ after ops V = after rest V'

/-- The end of a function. -/
theorem Follows.done : Follows (pure ⟨⟩) (fun t k => k t) [] :=
  ⟨[], IsSeq.nil, fun _ h => (List.not_mem_nil h).elim, fun _ V t _ A h => ⟨V, t, A, h, rfl⟩⟩

/-- A program left as it is. -/
theorem Follows.stop {p : Line} {rest : List Op} (h : IsSeq p rest)
    (hb : ∀ op ∈ rest, op.bufs ⊆ tcRefs τ sig ∧ op.fresh = ∅) : Follows p (fun t k => k t) rest :=
  ⟨rest, h, hb, fun _ V t _ A h => ⟨V, t, A, h, rfl⟩⟩

/-- One operation, and a program. -/
theorem Follows.cons {op : Op} {p : Line} {g g' : Tab → (Tab → Bool) → Bool} {rest : List Op} (h : Sim op g)
    (h' : Follows p g' rest) :
    Follows ((hlo rfl op fun _ => .ret (⟨⟩ : PUnit)) >>= fun _ => p) (fun t k => g t fun t' => g' t' k) rest := by
  obtain ⟨ops, hs, hb, hf⟩ := h'
  refine ⟨op :: ops, IsSeq.cons hs, ?_, fun V₀ V t k A hk => ?_⟩
  · intro o ho
    rcases List.mem_cons.1 ho with rfl | ho
    · exact ⟨h.bufs, h.fresh⟩
    · exact hb o ho
  · obtain ⟨t', A', hk'⟩ := h.step V₀ V t _ A hk
    exact hf V₀ _ t' k A' hk'

/-- Two lists of operations, one after the other. -/
theorem after_append (l l' : List Op) (V : Mem) : after (l ++ l') V = after l' (after l V) := by
  induction l generalizing V with
  | nil => rfl
  | cons op l ih => exact ih _

/-- A call, and a program. -/
theorem Follows.bind {p q : Line} {g g' : Tab → (Tab → Bool) → Bool} {rest : List Op} (h : Follows q g [])
    (h' : Follows p g' rest) : Follows (q >>= fun _ => p) (fun t k => g t fun t' => g' t' k) rest := by
  obtain ⟨ops, hs, hb, hf⟩ := h
  obtain ⟨ops', hs', hb', hf'⟩ := h'
  refine ⟨ops ++ ops', ?_, ?_, fun V₀ V t k A hk => ?_⟩
  · unfold IsSeq at hs hs' ⊢; rw [hs, hs', seq_append]
  · intro o ho
    rcases List.mem_append.1 ho with ho | ho
    · exact hb o ho
    · exact hb' o ho
  · obtain ⟨V', t', A', hk', e⟩ := hf V₀ V t _ A hk
    obtain ⟨V'', t'', A'', hk'', e'⟩ := hf' V₀ V' t' k A' hk'
    exact ⟨V'', t'', A'', hk'', by rw [after_append, e]; exact e'⟩

/-- A program and then nothing. -/
theorem bind_done (p : Line) : (p >>= fun _ => (pure ⟨⟩ : Line)) = p := bind_pure p

/-- One operation alone. -/
theorem Follows.one {op : Op} {g : Tab → (Tab → Bool) → Bool} (h : Sim op g) :
    Follows (hlo rfl op fun _ => .ret (⟨⟩ : PUnit)) (fun t k => g t k) [] := by
  have := Follows.cons h Follows.done
  rwa [bind_done] at this

end Cert.ReferenceIdeal.Hand
-- ==== Proof.Lines.lean ====
/-
  The lines of steps that follow the reference program's functions.

  Each of them pairs the line, read off the function's own body, with the fact that it follows the body.
-/
module

public import proofs.«01_k».proof.Proof.Steps
public import proofs.«01_k».proof.Proof.Gen.ReferenceIdeal

@[expose] public section

open Idealize.ShloMosaic Idealize.ShloMosaic.TcCoe Idealize.SL.Sem
open Idealize.ShloMosaic.StableHlo

namespace Cert.ReferenceIdeal.Hand

set_option maxHeartbeats 4000000

/-- Threefry on four counters. -/
noncomputable def mix4 (a b c d) (φ : fn_threefry2x32.Bufs) :
    {g // Follows (fn_threefry2x32.body (F := Ideal) a b c d φ) g []} := by
  apply Subtype.mk
  unfold fn_threefry2x32.body fn_threefry2x32.body_part0 fn_threefry2x32.body_part1 fn_threefry2x32.body_part2 fn_threefry2x32.body_part3
  repeat first
    | exact Follows.done
    | (apply Follows.cons; first | exact Step.sim | exact (step_nullary _ _).sim)
    | (apply Follows.one; first | exact Step.sim | exact (step_nullary _ _).sim)
    | apply Follows.bind

/-- Threefry on eight counters. -/
noncomputable def mix8 (a b c d) (φ : fn_threefry2x32_0.Bufs) :
    {g // Follows (fn_threefry2x32_0.body (F := Ideal) a b c d φ) g []} := by
  apply Subtype.mk
  unfold fn_threefry2x32_0.body fn_threefry2x32_0.body_part0 fn_threefry2x32_0.body_part1 fn_threefry2x32_0.body_part2 fn_threefry2x32_0.body_part3
  repeat first
    | exact Follows.done
    | (apply Follows.cons; first | exact Step.sim | exact (step_nullary _ _).sim)
    | (apply Follows.one; first | exact Step.sim | exact (step_nullary _ _).sim)
    | apply Follows.bind

/-- Threefry on two counters. -/
noncomputable def mix2 (a b c d) (φ : fn_threefry2x32_3.Bufs) :
    {g // Follows (fn_threefry2x32_3.body (F := Ideal) a b c d φ) g []} := by
  apply Subtype.mk
  unfold fn_threefry2x32_3.body fn_threefry2x32_3.body_part0 fn_threefry2x32_3.body_part1 fn_threefry2x32_3.body_part2 fn_threefry2x32_3.body_part3
  repeat first
    | exact Follows.done
    | (apply Follows.cons; first | exact Step.sim | exact (step_nullary _ _).sim)
    | (apply Follows.one; first | exact Step.sim | exact (step_nullary _ _).sim)
    | apply Follows.bind

/-- Threefry on one counter. -/
noncomputable def mix1 (a b c d) (φ : fn_threefry2x32_4.Bufs) :
    {g // Follows (fn_threefry2x32_4.body (F := Ideal) a b c d φ) g []} := by
  apply Subtype.mk
  unfold fn_threefry2x32_4.body fn_threefry2x32_4.body_part0 fn_threefry2x32_4.body_part1 fn_threefry2x32_4.body_part2
  repeat first
    | exact Follows.done
    | (apply Follows.cons; first | exact Step.sim | exact (step_nullary _ _).sim)
    | (apply Follows.one; first | exact Step.sim | exact (step_nullary _ _).sim)
    | apply Follows.bind

/-- Four keys of one. -/
noncomputable def split4 (a) (φ : fn_threefry_split.Bufs) :
    {g // Follows (fn_threefry_split.body (F := Ideal) a φ) g []} := by
  apply Subtype.mk
  unfold fn_threefry_split.body
  repeat first
    | exact Follows.done
    | (apply Follows.cons; first | exact Step.sim | exact (step_nullary _ _).sim)
    | apply Follows.bind (mix4 _ _ _ _ _).2

/-- Two keys of one. -/
noncomputable def split2 (a) (φ : fn_threefry_split_2.Bufs) :
    {g // Follows (fn_threefry_split_2.body (F := Ideal) a φ) g []} := by
  apply Subtype.mk
  unfold fn_threefry_split_2.body
  repeat first
    | exact Follows.done
    | (apply Follows.cons; first | exact Step.sim | exact (step_nullary _ _).sim)
    | apply Follows.bind (mix2 _ _ _ _ _).2

/-- Eight uniform samples. -/
noncomputable def uniform8 (a b c) (φ : fn_uniform.Bufs) :
    {g // Follows (fn_uniform.body (F := Ideal) a b c φ) g []} := by
  apply Subtype.mk
  unfold fn_uniform.body
  repeat first
    | exact Follows.done
    | (apply Follows.cons; first | exact Step.sim | exact (step_nullary _ _).sim | exact (step_zero _).sim | exact (step_one _).sim)
    | apply Follows.bind (mix8 _ _ _ _ _).2

/-- One uniform sample. -/
noncomputable def uniform1 (a b c) (φ : fn_uniform_6.Bufs) :
    {g // Follows (fn_uniform_6.body (F := Ideal) a b c φ) g []} := by
  apply Subtype.mk
  unfold fn_uniform_6.body
  repeat first
    | exact Follows.done
    | (apply Follows.cons; first | exact Step.sim | exact (step_nullary _ _).sim | exact (step_zero _).sim | exact (step_one _).sim)
    | apply Follows.bind (mix1 _ _ _ _ _).2

/-- Eight coins. -/
noncomputable def coin8 (a b) (φ : fn_bernoulli.Bufs) :
    {g // Follows (fn_bernoulli.body (F := Ideal) a b φ) g []} := by
  apply Subtype.mk
  unfold fn_bernoulli.body
  repeat first
    | exact Follows.done
    | (apply Follows.cons; first | exact Step.sim | exact (step_nullary _ _).sim | exact (step_zero _).sim | exact (step_one _).sim)
    | apply Follows.bind (uniform8 _ _ _ _).2

/-- One coin. -/
noncomputable def coin1 (a b) (φ : fn_bernoulli_5.Bufs) :
    {g // Follows (fn_bernoulli_5.body (F := Ideal) a b φ) g []} := by
  apply Subtype.mk
  unfold fn_bernoulli_5.body
  repeat first
    | exact Follows.done
    | (apply Follows.cons; first | exact Step.sim | exact (step_nullary _ _).sim | exact (step_zero _).sim | exact (step_one _).sim)
    | apply Follows.bind (uniform1 _ _ _ _).2

/-- An integer brought between two others. -/
noncomputable def clip (a b c) (φ : fn_clip.Bufs) :
    {g // Follows (fn_clip.body (F := Ideal) a b c φ) g []} := by
  apply Subtype.mk
  unfold fn_clip.body
  repeat first
    | exact Follows.done
    | (apply Follows.cons; first | exact Step.sim | exact (step_nullary _ _).sim)

/-- The same, at the second place it is written. -/
noncomputable def clip' (a b c) (φ : fn_clip_1.Bufs) :
    {g // Follows (fn_clip_1.body (F := Ideal) a b c φ) g []} := by
  apply Subtype.mk
  unfold fn_clip_1.body
  repeat first
    | exact Follows.done
    | (apply Follows.cons; first | exact Step.sim | exact (step_nullary _ _).sim)

/-- A uniform integer. -/
noncomputable def integer (a b c) (φ : fn_randint.Bufs) :
    {g // Follows (fn_randint.body (F := Ideal) a b c φ) g []} := by
  apply Subtype.mk
  unfold fn_randint.body
  repeat first
    | exact Follows.done
    | (apply Follows.cons; first | exact Step.sim | exact (step_nullary _ _).sim)
    | apply Follows.bind (clip _ _ _ _).2
    | apply Follows.bind (clip' _ _ _ _).2
    | apply Follows.bind (split2 _ _).2
    | apply Follows.bind (mix1 _ _ _ _ _).2

end Cert.ReferenceIdeal.Hand
-- ==== Proof.Tail.lean ====
/-
  The large part of the reference: how its result is made of the sampled values and the argument.
-/
module

public import proofs.«01_k».proof.Proof.Table
public import proofs.«01_k».proof.Proof.Gen.ReferenceIdeal
public import Idealize.ShloMosaic.Lib.StableHlo.RunRead

@[expose] public section

open Idealize.ShloMosaic Idealize.ShloMosaic.TcCoe Idealize.SL.Sem
open Idealize.ShloMosaic.StableHlo
open Cert.ReferenceIdeal.Facts₀

namespace Cert.ReferenceIdeal.Hand

set_option maxHeartbeats 4000000

/-- The operations after the sampling. -/
noncomputable abbrev tail : List Op := [
  nullary main_cst_8 (constant (F := Ideal) S_ .f32 0xBF7A3E5E#32),
  binary main_v20 main_cst_8 main_v21 (Host.powf (F := Ideal) (φ := .f32) : (⟨S_, .f32⟩ : BufTy).Contents (Elt Ideal) → (⟨S_, .f32⟩ : BufTy).Contents (Elt Ideal) → (⟨S_, .f32⟩ : BufTy).Contents (Elt Ideal)),
  nullary main_cst_9 (constant (F := Ideal) S_ .f32 0x3F87464A#32),
  binary main_cst_9 main_v21 main_v22 (mulf (F := Ideal) (φ := .f32) : (⟨S_, .f32⟩ : BufTy).Contents (Elt Ideal) → (⟨S_, .f32⟩ : BufTy).Contents (Elt Ideal) → (⟨S_, .f32⟩ : BufTy).Contents (Elt Ideal)),
  nullary main_v23 (iotaInDim S224 32 0),
  unary main_v17 main_v24 (broadcastInDim S224 ![] bcast_S_S224 : (⟨S_, .i32⟩ : BufTy).Contents (Elt Ideal) → (⟨S224, .i32⟩ : BufTy).Contents (Elt Ideal)),
  binary main_v23 main_v24 main_v25 (cmpi .eq : (⟨S224, .i32⟩ : BufTy).Contents (Elt Ideal) → (⟨S224, .i32⟩ : BufTy).Contents (Elt Ideal) → (⟨S224, .i1⟩ : BufTy).Contents (Elt Ideal)),
  unary main_v25 main_v26 (broadcastInDim S1x1x1x224 ![3] bcast_S224_S1x1x1x224_3 : (⟨S224, .i1⟩ : BufTy).Contents (Elt Ideal) → (⟨S1x1x1x224, .i1⟩ : BufTy).Contents (Elt Ideal)),
  nullary main_v27 (iotaInDim S224 32 0),
  unary main_v17 main_v28 (broadcastInDim S224 ![] bcast_S_S224 : (⟨S_, .i32⟩ : BufTy).Contents (Elt Ideal) → (⟨S224, .i32⟩ : BufTy).Contents (Elt Ideal)),
  binary main_v27 main_v28 main_v29 (cmpi .eq : (⟨S224, .i32⟩ : BufTy).Contents (Elt Ideal) → (⟨S224, .i32⟩ : BufTy).Contents (Elt Ideal) → (⟨S224, .i1⟩ : BufTy).Contents (Elt Ideal)),
  unary main_v29 main_v30 (broadcastInDim S1x1x224x1 ![2] bcast_S224_S1x1x224x1_2 : (⟨S224, .i1⟩ : BufTy).Contents (Elt Ideal) → (⟨S1x1x224x1, .i1⟩ : BufTy).Contents (Elt Ideal)),
  TRef.unary (.of main_v26 : TRef sig ⟨S1x1x1x224, .i1⟩) main_call5.v0 (broadcastInDim S1x1x224x224 ![0, 1, 2, 3] bcast_S1x1x1x224_S1x1x224x224_0_1_2_3),
  TRef.unary (.of main_v30 : TRef sig ⟨S1x1x224x1, .i1⟩) main_call5.v1 (broadcastInDim S1x1x224x224 ![0, 1, 2, 3] bcast_S1x1x224x1_S1x1x224x224_0_1_2_3),
  TRef.ternary (.of main_v18) main_call5.v0 main_call5.v1 main_call5.v2 (fun p a b => select (broadcastInDim S1x1x224x224 ![] bcast_S_S1x1x224x224 p) a b),
  unary main_v16 main_v32 (broadcastInDim S8x1x1x1 ![0] bcast_S8_S8x1x1x1_0 : (⟨S8, .i1⟩ : BufTy).Contents (Elt Ideal) → (⟨S8x1x1x1, .i1⟩ : BufTy).Contents (Elt Ideal)),
  unary main_v31 main_v33 (broadcastInDim S8x1x224x224 ![0, 1, 2, 3] bcast_S1x1x224x224_S8x1x224x224_0_1_2_3 : (⟨S1x1x224x224, .i1⟩ : BufTy).Contents (Elt Ideal) → (⟨S8x1x224x224, .i1⟩ : BufTy).Contents (Elt Ideal)),
  unary main_v32 main_v34 (broadcastInDim S8x1x224x224 ![0, 1, 2, 3] bcast_S8x1x1x1_S8x1x224x224_0_1_2_3 : (⟨S8x1x1x1, .i1⟩ : BufTy).Contents (Elt Ideal) → (⟨S8x1x224x224, .i1⟩ : BufTy).Contents (Elt Ideal)),
  binary main_v33 main_v34 main_v35 (andi : (⟨S8x1x224x224, .i1⟩ : BufTy).Contents (Elt Ideal) → (⟨S8x1x224x224, .i1⟩ : BufTy).Contents (Elt Ideal) → (⟨S8x1x224x224, .i1⟩ : BufTy).Contents (Elt Ideal)),
  nullary main_cst_10 (constant (F := Ideal) S_ .f32 0x3F800000#32),
  TRef.unary (.of main_v22 : TRef sig ⟨S_, .f32⟩) main_call6.v0 (broadcastInDim S8x1x224x224 ![] bcast_S_S8x1x224x224),
  TRef.unary (.of main_cst_10 : TRef sig ⟨S_, .f32⟩) main_call6.v1 (broadcastInDim S8x1x224x224 ![] bcast_S_S8x1x224x224),
  TRef.ternary (.of main_v35) main_call6.v0 main_call6.v1 main_call6.v2 select,
  unary main_v36 main_v37 (broadcastInDim S8x96x224x224 ![0, 1, 2, 3] bcast_S8x1x224x224_S8x96x224x224_0_1_2_3 : (⟨S8x1x224x224, .f32⟩ : BufTy).Contents (Elt Ideal) → (⟨S8x96x224x224, .f32⟩ : BufTy).Contents (Elt Ideal)),
  binary main_arg0 main_v37 main_v38 (mulf (F := Ideal) (φ := .f32) : (⟨S8x96x224x224, .f32⟩ : BufTy).Contents (Elt Ideal) → (⟨S8x96x224x224, .f32⟩ : BufTy).Contents (Elt Ideal) → (⟨S8x96x224x224, .f32⟩ : BufTy).Contents (Elt Ideal))]

/-- Where a row or a column number is the sampled one. -/
def hit (p : S_.Idx → BitVec 32) : S224.Idx → BitVec 1 :=
  cmpi .eq (iotaInDim S224 32 0) (broadcastInDim S224 ![] bcast_S_S224 p)

/-- The places the reference scales: sampled elements of the batch, the sampled row or column. -/
def mask (m : S8.Idx → BitVec 1) (p : S_.Idx → BitVec 32) (s : S_.Idx → BitVec 1) : S8x1x224x224.Idx → BitVec 1 :=
  andi
    (broadcastInDim S8x1x224x224 ![0, 1, 2, 3] bcast_S1x1x224x224_S8x1x224x224_0_1_2_3
      (select (broadcastInDim S1x1x224x224 ![] bcast_S_S1x1x224x224 s)
        (broadcastInDim S1x1x224x224 ![0, 1, 2, 3] bcast_S1x1x1x224_S1x1x224x224_0_1_2_3
          (broadcastInDim S1x1x1x224 ![3] bcast_S224_S1x1x1x224_3 (hit p)))
        (broadcastInDim S1x1x224x224 ![0, 1, 2, 3] bcast_S1x1x224x1_S1x1x224x224_0_1_2_3
          (broadcastInDim S1x1x224x1 ![2] bcast_S224_S1x1x224x1_2 (hit p)))))
    (broadcastInDim S8x1x224x224 ![0, 1, 2, 3] bcast_S8x1x1x1_S8x1x224x224_0_1_2_3
      (broadcastInDim S8x1x1x1 ![0] bcast_S8_S8x1x1x1_0 m))

/-- The factor the reference scales by, of one less the sampled number. -/
noncomputable def factor (r : S_.Idx → EReal) : S_.Idx → EReal :=
  mulf (F := Ideal) (φ := .f32) (constant (F := Ideal) S_ .f32 0x3F87464A#32)
    (Host.powf (F := Ideal) (φ := .f32) r (constant (F := Ideal) S_ .f32 0xBF7A3E5E#32))

/-- The reference's result, of the sampled values and the argument. -/
noncomputable def out (m : S8.Idx → BitVec 1) (p : S_.Idx → BitVec 32) (s : S_.Idx → BitVec 1) (r : S_.Idx → EReal)
    (X : S8x96x224x224.Idx → EReal) : S8x96x224x224.Idx → EReal :=
  mulf (F := Ideal) (φ := .f32) X
    (broadcastInDim S8x96x224x224 ![0, 1, 2, 3] bcast_S8x1x224x224_S8x96x224x224_0_1_2_3
      (select (mask m p s) (broadcastInDim S8x1x224x224 ![] bcast_S_S8x1x224x224 (factor r))
        (broadcastInDim S8x1x224x224 ![] bcast_S_S8x1x224x224 (constant (F := Ideal) S_ .f32 0x3F800000#32))))

/-- The result after the tail. -/
theorem tail_out (V : Mem) :
    after tail V (Proc.devRef .tc main_v38) =
      out (V (Proc.devRef .tc main_v16)) (V (Proc.devRef .tc main_v17)) (V (Proc.devRef .tc main_v18))
        (V (Proc.devRef .tc main_v20)) (V (Proc.devRef .tc main_arg0)) := by
  after_reads_simp
  rfl

/-- The tail leaves the argument as it was. -/
theorem tail_arg (V : Mem) : after tail V (Proc.devRef .tc main_arg0) = V (Proc.devRef .tc main_arg0) := by
  after_reads_simp

end Cert.ReferenceIdeal.Hand
-- ==== Proof.Main.lean ====
/-
  The line of steps that follows the reference up to its large part.
-/
module

public import proofs.«01_k».proof.Proof.Lines
public import proofs.«01_k».proof.Proof.Tail

@[expose] public section

open Idealize.ShloMosaic Idealize.ShloMosaic.TcCoe Idealize.SL.Sem
open Idealize.ShloMosaic.StableHlo

namespace Cert.ReferenceIdeal.Hand

set_option maxHeartbeats 4000000

/-- A line of operations after another. -/
theorem isSeq_bind {p q : Line} {l l' : List Op} (h : IsSeq q l) (h' : IsSeq p l') :
    IsSeq (q >>= fun _ => p) (l ++ l') := by
  unfold IsSeq at h h' ⊢; rw [h, h', seq_append]

/-- The operations of the tail, one by one. -/
theorem fit {op : Op} {l : List Op} (h : op.bufs ⊆ tcRefs τ sig) (h' : op.fresh = ∅)
    (hl : ∀ op ∈ l, op.bufs ⊆ tcRefs τ sig ∧ op.fresh = ∅) : ∀ o ∈ op :: l, o.bufs ⊆ tcRefs τ sig ∧ o.fresh = ∅ :=
  List.forall_mem_cons.2 ⟨⟨h, h'⟩, hl⟩

/-- The operations of the tail use buffers of the device only, and each says all that it writes. -/
theorem tail_bufs : ∀ op ∈ tail, op.bufs ⊆ tcRefs τ sig ∧ op.fresh = ∅ := by
  unfold tail
  apply fit (nullary_bufs_sub _ _ _) rfl
  apply fit (binary_bufs_sub _ _ _ _ _ _ _) rfl
  apply fit (nullary_bufs_sub _ _ _) rfl
  apply fit (binary_bufs_sub _ _ _ _ _ _ _) rfl
  apply fit (nullary_bufs_sub _ _ _) rfl
  apply fit (unary_bufs_sub _ _ _ _ _) rfl
  apply fit (binary_bufs_sub _ _ _ _ _ _ _) rfl
  apply fit (unary_bufs_sub _ _ _ _ _) rfl
  apply fit (nullary_bufs_sub _ _ _) rfl
  apply fit (unary_bufs_sub _ _ _ _ _) rfl
  apply fit (binary_bufs_sub _ _ _ _ _ _ _) rfl
  apply fit (unary_bufs_sub _ _ _ _ _) rfl
  apply fit (unary_bufs_sub _ _ _ _ _) rfl
  apply fit (unary_bufs_sub _ _ _ _ _) rfl
  apply fit (ternary_bufs_sub _ _ _ _ _ _ _ _ _) rfl
  apply fit (unary_bufs_sub _ _ _ _ _) rfl
  apply fit (unary_bufs_sub _ _ _ _ _) rfl
  apply fit (unary_bufs_sub _ _ _ _ _) rfl
  apply fit (binary_bufs_sub _ _ _ _ _ _ _) rfl
  apply fit (nullary_bufs_sub _ _ _) rfl
  apply fit (unary_bufs_sub _ _ _ _ _) rfl
  apply fit (unary_bufs_sub _ _ _ _ _) rfl
  apply fit (ternary_bufs_sub _ _ _ _ _ _ _ _ _) rfl
  apply fit (unary_bufs_sub _ _ _ _ _) rfl
  apply fit (binary_bufs_sub _ _ _ _ _ _ _) rfl
  exact List.forall_mem_nil _

/-- The reference's line, up to its large part. -/
noncomputable def line (d : Dev nD) : {g // Follows (main (F := Ideal) d) g tail} := by
  apply Subtype.mk
  unfold main
  iterate 10 (apply Follows.cons; first | exact sim_nullary _ _ _ rfl | exact sim_unary _ _ _ _ _ rfl | exact sim_binary _ _ _ _ _ _ _ rfl | exact sim_reshape _ _ _ _ _ _ rfl)
  apply Follows.bind (split4 _ _).2
  iterate 8 (apply Follows.cons; first | exact sim_nullary _ _ _ rfl | exact sim_unary _ _ _ _ _ rfl | exact sim_binary _ _ _ _ _ _ _ rfl | exact sim_reshape _ _ _ _ _ _ rfl)
  apply Follows.cons; exact (step_p3 (.of main_cst)).sim
  apply Follows.bind (coin8 _ _ _).2
  iterate 2 (apply Follows.cons; first | exact sim_nullary _ _ _ rfl | exact sim_unary _ _ _ _ _ rfl | exact sim_binary _ _ _ _ _ _ _ rfl | exact sim_reshape _ _ _ _ _ _ rfl)
  apply Follows.bind (integer _ _ _ _).2
  apply Follows.cons; exact (step_half (.of main_cst_4)).sim
  apply Follows.bind (coin1 _ _ _).2
  apply Follows.cons; exact (step_zero (.of main_cst_5)).sim
  apply Follows.cons; exact (step_one (.of main_cst_6)).sim
  apply Follows.bind (uniform1 _ _ _ _).2
  apply Follows.cons; exact (step_one (.of main_cst_7)).sim
  apply Follows.cons; exact (step_subf (.of main_cst_7) (.of main_v19) (.of main_v20)).sim
  apply Follows.stop _ tail_bufs
  unfold fn_where.body fn_where_7.body tail
  iterate 12 (apply IsSeq.cons)
  refine isSeq_bind (l := [_, _, _]) ?_ ?_
  · iterate 3 (apply IsSeq.cons)
    exact IsSeq.nil
  iterate 5 (apply IsSeq.cons)
  refine isSeq_bind (l := [_, _, _]) ?_ ?_
  · iterate 3 (apply IsSeq.cons)
    exact IsSeq.nil
  iterate 2 (apply IsSeq.cons)
  exact IsSeq.nil

end Cert.ReferenceIdeal.Hand
-- ==== Proof.Checked.lean ====
/-
  The sampled values of the reference: its line of steps, run on the empty table.
-/
module

public import proofs.«01_k».proof.Proof.Main

@[expose] public section

open Idealize.ShloMosaic Idealize.ShloMosaic.TcCoe Idealize.SL.Sem
open Idealize.ShloMosaic.StableHlo

namespace Cert.ReferenceIdeal.Hand

/-- What the table has to hold for the sampled values. -/
def sampledValues (t : Tab) : Bool :=
  get t main_v16 fun m => get t main_v17 fun p => get t main_v18 fun s => get t main_v20 fun r =>
    decide (m = [0, 0, 0, 0, 0, 0, 0, 1]) && (decide (p = [109]) && (decide (s = [0]) && decide (r = [20501352])))

set_option maxRecDepth 1000000 in
/-- The line of steps reaches the end, with the sampled values in the table. -/
theorem checked : (line 0).1 [] sampledValues = true := by decide +kernel

/-- The line follows the reference's program on every device. -/
theorem follows (d : Dev nD) : Follows (main (F := Ideal) d) (line 0).1 tail := (line 0).2

end Cert.ReferenceIdeal.Hand
-- ==== Proof.Value.lean ====
/-
  The reference's result at the sampled values: the argument, with one line of one element of the batch scaled.
-/
module

public import proofs.«01_k».proof.Proof.Consts
public import proofs.«01_k».proof.Proof.Tail
public import proofs.«01_k».proof.Proof.Launch
public import Idealize.ShloMosaic.PureOps.IdealRules

@[expose] public section

open Idealize.ShloMosaic Idealize.ShloMosaic.TcCoe Idealize.SL.Sem
open Idealize.ShloMosaic.StableHlo

namespace Cert.ReferenceIdeal.Hand

/-! ### The factor -/

/-- A square root halves the exponent. -/
theorem sqrt_rpow {r a : ℝ} (hr : 0 < r) {e : ℝ} (h : a = r ^ (2 * e)) : Real.sqrt a = r ^ e := by
  rw [h, Real.sqrt_eq_rpow, ← Real.rpow_mul hr.le]; congr 1; ring

/-- A product with the base adds one to the exponent. -/
theorem mul_rpow' {r a : ℝ} (hr : 0 < r) {e : ℝ} (h : a = r ^ (e - 1)) : r * a = r ^ e := by
  rw [h, Real.rpow_sub_one hr.ne']; field_simp

/-- A number's power to `8199983 / 2 ^ 23`, by square roots. -/
theorem roots (r : ℝ) (hr : 0 < r) :
    (Real.sqrt (r * (Real.sqrt (r * (Real.sqrt (r * (Real.sqrt (r * (Real.sqrt (r * (Real.sqrt (Real.sqrt (r * (Real.sqrt (Real.sqrt (Real.sqrt (Real.sqrt (r * (Real.sqrt (r * (Real.sqrt (r * (Real.sqrt (r * (Real.sqrt (r * (Real.sqrt (Real.sqrt (Real.sqrt (r * (Real.sqrt (Real.sqrt (r * (Real.sqrt (r * (Real.sqrt (r * (Real.sqrt r)))))))))))))))))))))))))))))))))))))) = r ^ (8199983 / 8388608 : ℝ) := by
  repeat first | apply sqrt_rpow hr | apply mul_rpow' hr
  conv_lhs => rw [← Real.rpow_one r]
  congr 1; norm_num

/-- The real number the factor is. -/
noncomputable def rel : ℝ := (4432677 / 4194304) * (Real.sqrt ((2562669 / 4194304) * (Real.sqrt ((2562669 / 4194304) * (Real.sqrt ((2562669 / 4194304) * (Real.sqrt ((2562669 / 4194304) * (Real.sqrt ((2562669 / 4194304) * (Real.sqrt (Real.sqrt ((2562669 / 4194304) * (Real.sqrt (Real.sqrt (Real.sqrt (Real.sqrt ((2562669 / 4194304) * (Real.sqrt ((2562669 / 4194304) * (Real.sqrt ((2562669 / 4194304) * (Real.sqrt ((2562669 / 4194304) * (Real.sqrt ((2562669 / 4194304) * (Real.sqrt (Real.sqrt (Real.sqrt ((2562669 / 4194304) * (Real.sqrt (Real.sqrt ((2562669 / 4194304) * (Real.sqrt ((2562669 / 4194304) * (Real.sqrt ((2562669 / 4194304) * (Real.sqrt (2562669 / 4194304)))))))))))))))))))))))))))))))))))))))⁻¹

/-- The constant the kernel scales by is this real number. -/
theorem scale_rel : (Cert.KernelIdeal.Hand.scale (F := Ideal) : EReal) = (rel : EReal) :=
  IdealRules.named_const.ideal_named_scalar _ _ _ _ rfl

/-- The factor of the reference is this real number too. -/
theorem factor_rel (j : S_.Idx) : factor (decC ⟨S_, .f32⟩ [20501352]) j = (rel : EReal) := by
  have h : factor (decC ⟨S_, .f32⟩ [20501352]) j =
      Ideal.ofBits .f32 0x3F87464A#32 * Ideal.pow (dec .f32 20501352) (Ideal.ofBits .f32 0xBF7A3E5E#32) := rfl
  have hd : (dec .f32 20501352 : EReal) = ((2562669 / 4194304 : ℝ) : EReal) := by
    show (((20501352 : ℕ) / 2 ^ 25 : ℝ) : EReal) = _
    norm_num
  rw [h, ofBits_xmin, ofBits_exponent, hd, Ideal.pow_coe_coe, ← EReal.coe_mul, rel,
    roots _ (by norm_num), ← Real.rpow_neg (by norm_num)]
  rfl

/-! ### The places -/

/-- Only the last sample is chosen. -/
theorem sampled (i : S8.Idx) : decC ⟨S8, .i1⟩ [0, 0, 0, 0, 0, 0, 0, 1] i = if (i 0).val = 7 then 1#1 else 0#1 := by
  have : ∀ k : Fin 8, (dec .i1 ([0, 0, 0, 0, 0, 0, 0, 1].getD k.val 0) : BitVec 1) = if k.val = 7 then 1#1 else 0#1 := by
    decide
  exact this (i 0)

/-- Only number 109 is hit. -/
theorem hit_eq (i : S224.Idx) : hit (decC ⟨S_, .i32⟩ [109]) i = if (i 0).val = 109 then 1#1 else 0#1 := by
  have : ∀ k : Fin 224, IntOp.cmpi .eq (BitVec.ofNat 32 k.val) 109#32 = if k.val = 109 then 1#1 else 0#1 := by
    decide
  exact this (i 0)

/-- The places scaled: row 109 of the last sample. -/
theorem mask_eq (j : S8x1x224x224.Idx) :
    mask (decC ⟨S8, .i1⟩ [0, 0, 0, 0, 0, 0, 0, 1]) (decC ⟨S_, .i32⟩ [109]) (decC ⟨S_, .i1⟩ [0]) j =
      (if (j 2).val = 109 then 1#1 else 0#1) &&& (if (j 0).val = 7 then 1#1 else 0#1) := by
  show (hit _ _ &&& (decC ⟨S8, .i1⟩ [0, 0, 0, 0, 0, 0, 0, 1] _ : BitVec 1) : BitVec 1) = _
  rw [hit_eq, sampled]
  rfl

/-- At the sampled values, the reference's result is the kernel's. -/
theorem value (X : S8x96x224x224.Idx → EReal) :
    out (decC ⟨S8, .i1⟩ [0, 0, 0, 0, 0, 0, 0, 1]) (decC ⟨S_, .i32⟩ [109]) (decC ⟨S_, .i1⟩ [0])
      (decC ⟨S_, .f32⟩ [20501352]) X = Cert.KernelIdeal.Hand.G (F := Ideal) X := by
  funext y
  show X y * Scalar.select (mask _ _ _ _) (factor _ _) (Ideal.ofBits .f32 0x3F800000#32) = if _ then X y * (Cert.KernelIdeal.Hand.scale (F := Ideal) : EReal) else X y
  rw [mask_eq, factor_rel, scale_rel]
  show X y * Scalar.select ((if (y 2).val = 109 then 1#1 else 0#1) &&& (if (y 0).val = 7 then 1#1 else 0#1)) _ _ = _
  by_cases h0 : (y 0).val = 7
  · by_cases h2 : (y 2).val = 109
    · simp only [h0, h2, and_self, if_true]
      rfl
    · simp only [h0, h2, and_false, if_true, if_false, ofBits_one, dec]
      show X y * (((33554432 : ℕ) / 2 ^ 25 : ℝ) : EReal) = X y
      norm_num
  · simp only [h0, false_and, if_false, ofBits_one, dec]
    have : ((if (y 2).val = 109 then 1#1 else 0#1) &&& 0#1 : BitVec 1) = 0#1 := by split <;> rfl
    rw [this]
    show X y * (((33554432 : ℕ) / 2 ^ 25 : ℝ) : EReal) = X y
    norm_num

end Cert.ReferenceIdeal.Hand
-- ==== Proof.Reference.lean ====
/-
  What a run of the reference ends with.
-/
module

public import proofs.«01_k».proof.Proof.Checked
public import proofs.«01_k».proof.Proof.Value
public import Idealize.ShloMosaic.Lib.StableHlo.RunHlo

@[expose] public section

open Idealize.ShloMosaic Idealize.ShloMosaic.TcCoe Idealize.SL.Sem
open Idealize.ShloMosaic.StableHlo

namespace Cert.ReferenceIdeal.Hand

/-- A memory described by a table with the sampled values holds the sampled values. -/
theorem sampledValues_eq {V₀ V : Mem} {t : Tab} (A : Agrees V₀ V t) (h : sampledValues t = true) :
    V (Proc.devRef .tc main_v16) = decC ⟨S8, .i1⟩ [0, 0, 0, 0, 0, 0, 0, 1] ∧
      V (Proc.devRef .tc main_v17) = decC ⟨S_, .i32⟩ [109] ∧ V (Proc.devRef .tc main_v18) = decC ⟨S_, .i1⟩ [0] ∧
      V (Proc.devRef .tc main_v20) = decC ⟨S_, .f32⟩ [20501352] := by
  obtain ⟨m, em, h⟩ := get_eq A _ _ h
  obtain ⟨p, ep, h⟩ := get_eq A _ _ h
  obtain ⟨s, es, h⟩ := get_eq A _ _ h
  obtain ⟨r, er, h⟩ := get_eq A _ _ h
  simp only [Bool.and_eq_true, decide_eq_true_eq] at h
  obtain ⟨rfl, rfl, rfl, rfl⟩ := h
  exact ⟨em, ep, es, er⟩

/-- The reference's operations, and the result they leave. -/
theorem operations : ∃ ops : List Op, (∀ d, IsSeq (main (F := Ideal) d) ops) ∧
    (∀ op ∈ ops, op.bufs ⊆ tcRefs τ sig ∧ op.fresh = ∅) ∧
    ∀ V : Mem, after ops V (Proc.devRef .tc main_v38) =
        Cert.KernelIdeal.Hand.G (F := Ideal) (V (Proc.devRef .tc main_arg0)) ∧
      after ops V (Proc.devRef .tc main_arg0) = V (Proc.devRef .tc main_arg0) := by
  obtain ⟨ops, hs, hb, hf⟩ := follows 0
  refine ⟨ops, fun _ => hs, hb, fun V => ?_⟩
  obtain ⟨V', t', A, hk, e⟩ := hf V V [] sampledValues ⟨rfl, fun _ _ h => nomatch h⟩ checked
  obtain ⟨em, ep, es, er⟩ := sampledValues_eq A hk
  rw [e, tail_out, tail_arg, em, ep, es, er, A.arg]
  exact ⟨value _, rfl⟩

/-- A run of the reference ends with one line of one element of the batch scaled, and the argument as it was. -/
theorem run (m : (ℓ : Loc nD τ sig) → Buf Val ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) =
          Cert.KernelIdeal.Hand.G (F := Ideal) (m ((c.tc : Thread nD τ).loc main_arg0)) ∧
        r.2.mem ((c.tc : Thread nD τ).loc main_arg0) = m ((c.tc : Thread nD τ).loc main_arg0)) := by
  obtain ⟨ops, hs, hb, hv⟩ := operations
  refine θ_run_mono (run_hlo _ _ hs (by decide) (by decide) (List.forall_iff_forall_mem.2 fun op h => (hb op h).1)
    (fun op h => (hb op h).2) m ρ) fun r h c => ?_
  rw [h c main_v38, h c main_arg0]
  exact hv _

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelLaunch
public import proofs.«01_k».proof.Proof.Launch
public import proofs.«01_k».proof.Proof.Reference
public import Idealize.ShloMosaic.Lib.Quiescent
public import Idealize.ShloMosaic.PureOps.IdealRules
public import Idealize.ShloMosaic.Adequacy
public import Idealize.ShloMosaic.Init

@[expose] public section

noncomputable section

namespace Cert.Proof

open Idealize.ShloMosaic Idealize.ShloMosaic.TcCoe Idealize.SL.Sem

/-- The kernel runs, leaves its argument as it was and every semaphore counter at zero. -/
theorem quiescent_Kernel : @Cert.quiescent_Kernel Cert.Kernel.Gen.facts := fun m ρ _ =>
  θ_run_mono (Cert.Kernel.Hand.run m ρ) fun _ h => ⟨fun c => (h.1 c).2, h.2⟩

/-- So does the idealized kernel. -/
theorem quiescent_KernelIdeal : @Cert.quiescent_KernelIdeal Cert.KernelIdeal.Gen.facts := fun m ρ _ =>
  θ_run_mono (Cert.KernelIdeal.Hand.run m ρ) fun _ h => ⟨fun c => (h.1 c).2, h.2⟩

/-- So does the reference. -/
theorem quiescent_ReferenceIdeal : @Cert.quiescent_ReferenceIdeal Cert.ReferenceIdeal.Gen.facts := fun m ρ _ =>
  θ_run_mono (Cert.ReferenceIdeal.Hand.run m ρ) fun r h =>
    ⟨fun c => (h c).2, Idealize.ShloMosaic.sem_eq_zero_of_no_sems (by decide) r.2⟩

/-- The kernel's literal is the named constant. -/
theorem preserves : Cert.preserves_Kernel_KernelIdeal := IdealRules.named_const.statement _ _ _ _ _ rfl

/-- Both results are the argument with one line of one element of the batch scaled. -/
theorem algebraic :
    @Cert.algebraic_KernelIdeal_ReferenceIdeal Cert.KernelIdeal.Gen.facts Cert.ReferenceIdeal.Gen.facts :=
  fun m ρ m' ρ' _ hm => ⟨fun c => Cert.KernelIdeal.Hand.G (F := Ideal)
      (m ((c.tc : Thread Cert.KernelIdeal.nD Cert.KernelIdeal.τ).loc Cert.KernelIdeal.main_arg0)),
    θ_run_mono (Cert.KernelIdeal.Hand.run m ρ) fun _ h => h.1,
    θ_run_mono (Cert.ReferenceIdeal.Hand.run m' ρ') fun _ h c =>
      ⟨(h c).1.trans (congrArg (Cert.KernelIdeal.Hand.G (F := Ideal)) (hm c)), (h c).2⟩⟩

/-- The certificate's claim. -/
theorem claim : Cert.Claim := ⟨Cert.Kernel.Gen.facts, Cert.KernelIdeal.Gen.facts, Cert.ReferenceIdeal.Gen.facts,
  quiescent_Kernel, quiescent_KernelIdeal, quiescent_ReferenceIdeal, preserves, algebraic⟩

end Cert.Proof

end
